-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 1024]⟩ ⟨2, ![1, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1, 1024]⟩ ⟨2, ![1, 4096]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) (main_arg1 : FVec F S1x1024 .f32) (main_arg2 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_ReferenceIdeal.lean ====
abbrev S2048x4096 : Shape := ⟨2, ![2048, 4096]⟩
abbrev S1x4096 : Shape := ⟨2, ![1, 4096]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel

variable [Facts]

def fn {F : FTy → Type} [FloatOps F] (main_arg0 : FVec F S2048x4096 .f32) (main_arg1 : FVec F S1x4096 .f32) (main_arg2 : FVec F S1x4096 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  main_v3
-- ==== Kernel.lean ====
abbrev S2048x1024 : Shape := ⟨2, ![2048, 1024]⟩
abbrev S1x1024 : Shape := ⟨2, ![1, 1024]⟩
abbrev S2x2048 : Shape := ⟨2, ![2, 2048]⟩
abbrev S3x2x2048 : Shape := ⟨3, ![3, 2, 2048]⟩
abbrev S2 : Shape := ⟨1, ![2]⟩
abbrev S3x2 : Shape := ⟨2, ![3, 2]⟩
abbrev S1 : Shape := ⟨1, ![1]⟩
abbrev S_ : Shape := ⟨0, ![]⟩
abbrev S1024x1024 : Shape := ⟨2, ![1024, 1024]⟩
abbrev S1x1 : Shape := ⟨2, ![1, 1]⟩
abbrev S1x2x1024 : Shape := ⟨3, ![1, 2, 1024]⟩
abbrev S2x1024 : Shape := ⟨2, ![2, 1024]⟩
abbrev S1024x2 : Shape := ⟨2, ![1024, 2]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .local _ .vmem, ⟨0, _⟩ => ⟨S1x1024, .f32⟩
  | .local _ .vmem, ⟨1, _⟩ => ⟨S1x1024, .f32⟩
  | .local _ .vmem, ⟨2, _⟩ => ⟨S2048x1024, .f32⟩
  | .local _ .vmem, ⟨3, _⟩ => ⟨S2048x1024, .f32⟩
  | .local _ .vmem, ⟨4, _⟩ => ⟨S2x2048, .f32⟩
  | .local _ .vmem, ⟨5, _⟩ => ⟨S3x2x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v12 : BitVec 32 := Scalar.addi v2 c1_i32_8
  let c4_i32_9 : BitVec 32 := 4#32
  let c0_i32_10 : BitVec 32 := 0#32
  let v13 : BitVec 1 := Scalar.cmpi .eq c4_i32_9 c0_i32_10
  let c1_i32_11 : BitVec 32 := 1#32
  let v14 : BitVec 32 := Scalar.select v13 c1_i32_11 c4_i32_9
  let v15 : BitVec 32 := Scalar.remsi v12 v14
  let c0_i32_13 : BitVec 32 := 0#32
  let v17 : BitVec 1 := Scalar.cmpi .slt v15 c0_i32_13
  let c0_i32_14 : BitVec 32 := 0#32
  let v18 : BitVec 1 := Scalar.cmpi .slt v14 c0_i32_14
  let v19 : BitVec 1 := Scalar.xori v17 v18
  let c0_i32_12 : BitVec 32 := 0#32
  let v16 : BitVec 1 := Scalar.cmpi .ne v15 c0_i32_12
  let v20 : BitVec 1 := Scalar.andi v19 v16
  let v21 : BitVec 32 := Scalar.addi v15 v14
  let v22 : BitVec 32 := Scalar.select v20 v21 v15
  let c1_i32_16 : BitVec 32 := 1#32
  let v23 : BitVec 32 := Scalar.muli v22 c1_i32_16
  let v24 : BitVec 32 := Scalar.addi c0_i32_17 v23
  v24.toNat
def k0_dev2 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_18 : BitVec 32 := 4#32
  let c0_i32_19 : BitVec 32 := 0#32
  let v26 : BitVec 1 := Scalar.cmpi .eq c4_i32_18 c0_i32_19
  let c1_i32_20 : BitVec 32 := 1#32
  let v27 : BitVec 32 := Scalar.select v26 c1_i32_20 c4_i32_18
  let v28 : BitVec 32 := Scalar.remsi v25 v27
  let c0_i32_22 : BitVec 32 := 0#32
  let v30 : BitVec 1 := Scalar.cmpi .slt v28 c0_i32_22
  let c0_i32_23 : BitVec 32 := 0#32
  let v31 : BitVec 1 := Scalar.cmpi .slt v27 c0_i32_23
  let v32 : BitVec 1 := Scalar.xori v30 v31
  let c0_i32_21 : BitVec 32 := 0#32
  let v29 : BitVec 1 := Scalar.cmpi .ne v28 c0_i32_21
  let v33 : BitVec 1 := Scalar.andi v32 v29
  let v34 : BitVec 32 := Scalar.addi v28 v27
  let v35 : BitVec 32 := Scalar.select v33 v34 v28
  let c1_i32_25 : BitVec 32 := 1#32
  let v36 : BitVec 32 := Scalar.muli v35 c1_i32_25
  let v37 : BitVec 32 := Scalar.addi c0_i32_26 v36
  v37.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v38 : BitVec 32 := Scalar.addi v2 c3_i32
  let c4_i32_27 : BitVec 32 := 4#32
  let c0_i32_28 : BitVec 32 := 0#32
  let v39 : BitVec 1 := Scalar.cmpi .eq c4_i32_27 c0_i32_28
  let c1_i32_29 : BitVec 32 := 1#32
  let v40 : BitVec 32 := Scalar.select v39 c1_i32_29 c4_i32_27
  let v41 : BitVec 32 := Scalar.remsi v38 v40
  let c0_i32_31 : BitVec 32 := 0#32
  let v43 : BitVec 1 := Scalar.cmpi .slt v41 c0_i32_31
  let c0_i32_32 : BitVec 32 := 0#32
  let v44 : BitVec 1 := Scalar.cmpi .slt v40 c0_i32_32
  let v45 : BitVec 1 := Scalar.xori v43 v44
  let c0_i32_30 : BitVec 32 := 0#32
  let v42 : BitVec 1 := Scalar.cmpi .ne v41 c0_i32_30
  let v46 : BitVec 1 := Scalar.andi v45 v42
  let v47 : BitVec 32 := Scalar.addi v41 v40
  let v48 : BitVec 32 := Scalar.select v46 v47 v41
  let c1_i32_34 : BitVec 32 := 1#32
  let v49 : BitVec 32 := Scalar.muli v48 c1_i32_34
  let v50 : BitVec 32 := Scalar.addi c0_i32_35 v49
  v50.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_48 : BitVec 32 := 2#32
  let v66 : BitVec 32 := Scalar.addi v2 c2_i32_48
  let c4_i32_49 : BitVec 32 := 4#32
  let c0_i32_50 : BitVec 32 := 0#32
  let v67 : BitVec 1 := Scalar.cmpi .eq c4_i32_49 c0_i32_50
  let c1_i32_51 : BitVec 32 := 1#32
  let v68 : BitVec 32 := Scalar.select v67 c1_i32_51 c4_i32_49
  let v69 : BitVec 32 := Scalar.remsi v66 v68
  let c0_i32_53 : BitVec 32 := 0#32
  let v71 : BitVec 1 := Scalar.cmpi .slt v69 c0_i32_53
  let c0_i32_54 : BitVec 32 := 0#32
  let v72 : BitVec 1 := Scalar.cmpi .slt v68 c0_i32_54
  let v73 : BitVec 1 := Scalar.xori v71 v72
  let c0_i32_52 : BitVec 32 := 0#32
  let v70 : BitVec 1 := Scalar.cmpi .ne v69 c0_i32_52
  let v74 : BitVec 1 := Scalar.andi v73 v70
  let v75 : BitVec 32 := Scalar.addi v69 v68
  let v76 : BitVec 32 := Scalar.select v74 v75 v69
  let c1_i32_60 : BitVec 32 := 1#32
  let v77 : BitVec 32 := Scalar.muli v76 c1_i32_60
  let v78 : BitVec 32 := Scalar.addi c0_i32_61 v77
  v78.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_66 : BitVec 32 := 1#32
  let v86 : BitVec 32 := Scalar.addi v2 c1_i32_66
  let c4_i32_67 : BitVec 32 := 4#32
  let c0_i32_68 : BitVec 32 := 0#32
  let v87 : BitVec 1 := Scalar.cmpi .eq c4_i32_67 c0_i32_68
  let c1_i32_69 : BitVec 32 := 1#32
  let v88 : BitVec 32 := Scalar.select v87 c1_i32_69 c4_i32_67
  let v89 : BitVec 32 := Scalar.remsi v86 v88
  let c0_i32_71 : BitVec 32 := 0#32
  let v91 : BitVec 1 := Scalar.cmpi .slt v89 c0_i32_71
  let c0_i32_72 : BitVec 32 := 0#32
  let v92 : BitVec 1 := Scalar.cmpi .slt v88 c0_i32_72
  let v93 : BitVec 1 := Scalar.xori v91 v92
  let c0_i32_70 : BitVec 32 := 0#32
  let v90 : BitVec 1 := Scalar.cmpi .ne v89 c0_i32_70
  let v94 : BitVec 1 := Scalar.andi v93 v90
  let v95 : BitVec 32 := Scalar.addi v89 v88
  let v96 : BitVec 32 := Scalar.select v94 v95 v89
  let c1_i32_78 : BitVec 32 := 1#32
  let v97 : BitVec 32 := Scalar.muli v96 c1_i32_78
  let v98 : BitVec 32 := Scalar.addi c0_i32_79 v97
  v98.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_84 : BitVec 32 := 3#32
  let v106 : BitVec 32 := Scalar.addi v2 c3_i32_84
  let c4_i32_85 : BitVec 32 := 4#32
  let c0_i32_86 : BitVec 32 := 0#32
  let v107 : BitVec 1 := Scalar.cmpi .eq c4_i32_85 c0_i32_86
  let c1_i32_87 : BitVec 32 := 1#32
  let v108 : BitVec 32 := Scalar.select v107 c1_i32_87 c4_i32_85
  let v109 : BitVec 32 := Scalar.remsi v106 v108
  let c0_i32_89 : BitVec 32 := 0#32
  let v111 : BitVec 1 := Scalar.cmpi .slt v109 c0_i32_89
  let c0_i32_90 : BitVec 32 := 0#32
  let v112 : BitVec 1 := Scalar.cmpi .slt v108 c0_i32_90
  let v113 : BitVec 1 := Scalar.xori v111 v112
  let c0_i32_88 : BitVec 32 := 0#32
  let v110 : BitVec 1 := Scalar.cmpi .ne v109 c0_i32_88
  let v114 : BitVec 1 := Scalar.andi v113 v110
  let v115 : BitVec 32 := Scalar.addi v109 v108
  let v116 : BitVec 32 := Scalar.select v114 v115 v109
  let c1_i32_96 : BitVec 32 := 1#32
  let v117 : BitVec 32 := Scalar.muli v116 c1_i32_96
  let v118 : BitVec 32 := Scalar.addi c0_i32_97 v117
  v118.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_114 : BitVec 32 := 2#32
  let v140 : BitVec 32 := Scalar.addi v2 c2_i32_114
  let c4_i32_115 : BitVec 32 := 4#32
  let c0_i32_116 : BitVec 32 := 0#32
  let v141 : BitVec 1 := Scalar.cmpi .eq c4_i32_115 c0_i32_116
  let c1_i32_117 : BitVec 32 := 1#32
  let v142 : BitVec 32 := Scalar.select v141 c1_i32_117 c4_i32_115
  let v143 : BitVec 32 := Scalar.remsi v140 v142
  let c0_i32_119 : BitVec 32 := 0#32
  let v145 : BitVec 1 := Scalar.cmpi .slt v143 c0_i32_119
  let c0_i32_120 : BitVec 32 := 0#32
  let v146 : BitVec 1 := Scalar.cmpi .slt v142 c0_i32_120
  let v147 : BitVec 1 := Scalar.xori v145 v146
  let c0_i32_118 : BitVec 32 := 0#32
  let v144 : BitVec 1 := Scalar.cmpi .ne v143 c0_i32_118
  let v148 : BitVec 1 := Scalar.andi v147 v144
  let v149 : BitVec 32 := Scalar.addi v143 v142
  let v150 : BitVec 32 := Scalar.select v148 v149 v143
  let c1_i32_126 : BitVec 32 := 1#32
  let v151 : BitVec 32 := Scalar.muli v150 c1_i32_126
  let v152 : BitVec 32 := Scalar.addi c0_i32_127 v151
  v152.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_132 : BitVec 32 := 1#32
  let v160 : BitVec 32 := Scalar.addi v2 c1_i32_132
  let c4_i32_133 : BitVec 32 := 4#32
  let c0_i32_134 : BitVec 32 := 0#32
  let v161 : BitVec 1 := Scalar.cmpi .eq c4_i32_133 c0_i32_134
  let c1_i32_135 : BitVec 32 := 1#32
  let v162 : BitVec 32 := Scalar.select v161 c1_i32_135 c4_i32_133
  let v163 : BitVec 32 := Scalar.remsi v160 v162
  let c0_i32_137 : BitVec 32 := 0#32
  let v165 : BitVec 1 := Scalar.cmpi .slt v163 c0_i32_137
  let c0_i32_138 : BitVec 32 := 0#32
  let v166 : BitVec 1 := Scalar.cmpi .slt v162 c0_i32_138
  let v167 : BitVec 1 := Scalar.xori v165 v166
  let c0_i32_136 : BitVec 32 := 0#32
  let v164 : BitVec 1 := Scalar.cmpi .ne v163 c0_i32_136
  let v168 : BitVec 1 := Scalar.andi v167 v164
  let v169 : BitVec 32 := Scalar.addi v163 v162
  let v170 : BitVec 32 := Scalar.select v168 v169 v163
  let c1_i32_144 : BitVec 32 := 1#32
  let v171 : BitVec 32 := Scalar.muli v170 c1_i32_144
  let v172 : BitVec 32 := Scalar.addi c0_i32_145 v171
  v172.toNat
def k0_dev9 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_150 : BitVec 32 := 3#32
  let v180 : BitVec 32 := Scalar.addi v2 c3_i32_150
  let c4_i32_151 : BitVec 32 := 4#32
  let c0_i32_152 : BitVec 32 := 0#32
  let v181 : BitVec 1 := Scalar.cmpi .eq c4_i32_151 c0_i32_152
  let c1_i32_153 : BitVec 32 := 1#32
  let v182 : BitVec 32 := Scalar.select v181 c1_i32_153 c4_i32_151
  let v183 : BitVec 32 := Scalar.remsi v180 v182
  let c0_i32_155 : BitVec 32 := 0#32
  let v185 : BitVec 1 := Scalar.cmpi .slt v183 c0_i32_155
  let c0_i32_156 : BitVec 32 := 0#32
  let v186 : BitVec 1 := Scalar.cmpi .slt v182 c0_i32_156
  let v187 : BitVec 1 := Scalar.xori v185 v186
  let c0_i32_154 : BitVec 32 := 0#32
  let v184 : BitVec 1 := Scalar.cmpi .ne v183 c0_i32_154
  let v188 : BitVec 1 := Scalar.andi v187 v184
  let v189 : BitVec 32 := Scalar.addi v183 v182
  let v190 : BitVec 32 := Scalar.select v188 v189 v183
  let c1_i32_162 : BitVec 32 := 1#32
  let v191 : BitVec 32 := Scalar.muli v190 c1_i32_162
  let v192 : BitVec 32 := Scalar.addi c0_i32_163 v191
  v192.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x4096 : Shape := ⟨2, ![2048, 4096]⟩
abbrev S1x4096 : Shape := ⟨2, ![1, 4096]⟩
abbrev S_ : Shape := ⟨0, ![]⟩
abbrev S2048 : Shape := ⟨1, ![2048]⟩
abbrev S2048x1 : Shape := ⟨2, ![2048, 1]⟩

abbrev nBuf : Space → Nat
  | .hbm => 45
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x4096, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x4096, .f32⟩
  | .hbm, ⟨42, _⟩ => ⟨S2048x4096, .f32⟩
  | .hbm, ⟨43, _⟩ => ⟨S2048x4096, .f32⟩
  | .hbm, ⟨44, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩

abbrev nD : Nat := 1
abbrev τ : Topo := Topo.v7x

variable {F : FTy → Type} [FloatOps F]
-- ==== Proof.Hold.lean ====
/-
  Holding parts of a buffer by what they read.

  A device's part of a buffer — a slice of a memref — is held here by the
  values it reads, `owns c m q X`, never by the contents of the whole buffer
  behind it.  Each rule below carries one effect of a kernel body over such
  holdings: a load, a store, the start and the end of a copy on the device
  itself, and the start of a copy to another device.
-/
module

public import Idealize.ShloMosaic.Lib.Pipeline.Launch
public import Idealize.ShloMosaic.Lib.Pipeline.Kit
public import Idealize.ShloMosaic.Lib.MemrefSat
public import Idealize.ShloMosaic.Lib.Transfers
public import Idealize.ShloMosaic.Lib.Tactic

@[expose] public section
noncomputable section

namespace Cert.Hold

open Idealize.ShloMosaic
open Idealize.ShloMosaic.TcCoe
open Idealize.SL Idealize.SL.RA
open Idealize.SL.BI (sProp)
open scoped Idealize.SL.BI
open Idealize.SL.BI.BIBase Idealize.SL.BI.Laws Idealize.SL.ProofMode
open Idealize.SL.Sem
open Transfers (Flight)

variable {nD : Nat} {τ : Topo} {sig : RefSig} {Ix : Type} [DecidableEq Ix]
variable {Val : EltTy → Type} {Name : Type} [DecidableEq Name] {U : Type} [URA U]
variable {Lvl : Type} [Preorder Lvl] {Λ : Labels}
local notation "𝕄" => MT nD τ sig Ix Val Name U Lvl

section Effects

variable {defs : Defs nD τ sig Val Λ} (𝒱 : Variants) (c : Thread nD τ) (bd : Option 𝒱.V)
  {α : Type} {Q : α → sProp (MT nD τ sig Ix Val Name U Lvl)} {s : Shape} {e : EltTy}

/-- Loading a rectangle held as a slice reads the values the slice is held at,
    and the slice stays held. -/
theorem wp_load_owns {cs : CoreSpace} {m : Memref sig c.2.kind cs s e} {r : Rect s} (hr : ∀ a, r.stride a = 1)
    {hl : m.view.LoadsAt r.toLoadRect} {k : (r.shape.Idx → Val e) → Prog (TpuEff nD τ sig Val Λ c.2) α}
    {q : PosShare TreeShare} {X : r.shape.Idx → Val e} :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r.toLoadRect hl) k) Q) := by
  unfold owns
  iintro ⟨%f, %hf, H⟩ Hk
  iapply (wp_load_rect 𝒱 c bd Set.univ (m := m) (r := r) (q := q) (f := f) (Finset.Subset.refl _)) $$ H
  iintro H
  rw [show (m.access r).read Val f = X from hf]
  iapply Hk
  iexists f
  isplitr
  · ipureintro; exact hf
  · iexact H

/-- Loading, with its unit axis, a rectangle held as a slice whose unit axis
    has been dropped reads the held values under the longer index. -/
theorem wp_load_squeezed {cs : CoreSpace} {m : Memref sig c.2.kind cs s e} {r : Rect s} (hr : ∀ a, r.stride a = 1)
    {s' : Shape} (hs : r.shape.Squeezes s')
    {hl : m.view.LoadsAt r.toLoadRect} {k : (r.shape.Idx → Val e) → Prog (TpuEff nD τ sig Val Λ c.2) α}
    {q : PosShare TreeShare} {X : s'.Idx → Val e} :
    (owns c ((m.slice r hr).squeeze s' hs) q X : sProp 𝕄)
      ⊢ iprop((owns c ((m.slice r hr).squeeze s' hs) q X
          -∗ wp frame (wpE defs 𝒱 c bd) Set.univ (k fun i => X ((Shape.reshapeEquiv hs.numel_eq).symm i)) Q)
        -∗ wp frame (wpE defs 𝒱 c bd) Set.univ (.op (.load m r.toLoadRect hl) k) Q) := by
  unfold owns
  iintro ⟨%f, %hf, H⟩ Hk
  have hset : ((m.slice r hr).squeeze s' hs).view.set = (m.access r).set :=
    View.set_reshape (m.access r) hs.numel_eq
  iapply (wp_load_rect 𝒱 c bd Set.univ (m := m) (r := r) (q := q) (f := f) (S := ((m.slice r hr).squeeze s' hs).view.set) hset.ge) $$ H
  iintro H
  rw [show (m.access r).read Val f = fun i => X ((Shape.reshapeEquiv hs.numel_eq).symm i) from by
    funext i
    rw [← hf]
    show _ = (m.access r).read Val f (Shape.reshapeEquiv _ ((Shape.reshapeEquiv _).symm i))
    rw [Equiv.apply_symm_apply]]
  iapply Hk
  iexists f
  isplitr
  · ipureintro; exact hf
  · iexact H

/-- Storing a rectangle held whole leaves it held at the stored values. -/
theorem wp_store_owns {cs : CoreSpace} {m : Memref sig c.2.kind cs s e} {r : Rect s} (hr : ∀ a, r.stride a = 1)
    {w : r.shape.Idx → Val e} {hx : (m.access r).Stores Finset.univ} {hm : (Finset.univ : Finset r.shape.Idx) = Finset.univ ∨ ∀ a, r.stride a = 1}
    {k : PUnit → Prog (TpuEff nD τ sig Val Λ c.2) α} {X : r.shape.Idx → Val e} :
    (owns c (m.slice r hr) fullShare X : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  unfold owns
  iintro ⟨%f, %hf, H⟩ Hk
  iapply (wp_store 𝒱 c bd Set.univ (m := m) (r := r) (Mk := Finset.univ) (f := f) (S := (m.slice r hr).view.set) (Finset.Subset.refl _)) $$ H
  iintro H
  iapply Hk
  iexists (m.access r).write Val f w Finset.univ
  isplitr
  · ipureintro; exact View.read_write_univ f w
  · iexact H

/-- Starting a copy on the device itself: the source at any share, the
    destination whole, and the copy's counter at zero go in; the pending copy
    comes out, which will deliver the destination at the source's values
    together with the source. -/
theorem wp_copy_owns [Infinite Name] (EC : UEmb Counters 𝕄) [EC.LandsIn (upEmb : UEmb _ 𝕄)] {sp sp' : Space}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0)
      ⊢ iprop((Flight EC c sm ι N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  unfold owns
  iintro ⟨⟨%fs, %hfs, Hs⟩, ⟨%fd, %hfd, Hd⟩, Hv⟩ Hk
  iapply (Transfers.wp_dmaLocal EC 𝒱 c bd (src := src) (dst := dst) (sm := sm) (fs := fs) (fd := fd) (q := q) (Sd := dst.view.set) ι N hN hN0 (Finset.Subset.refl _)) $$ [Hs Hd Hv]
  · isplitl [Hs]; · iexact Hs
    isplitl [Hd]; · iexact Hd
    iexact Hv
  iintro Hf
  iapply Hk
  iapply (Transfers.Flight_mono EC c (D := iprop((dst.view.loc c ↦[dst.view.set]{fullShare} (dst.view.write Val fd (ReadAs.same.apply (src.view.read Val fs)) Finset.univ))
      ∗ (src.view.loc c ↦[src.view.set]{q} fs))) ?_) $$ Hf
  iintro ⟨Hd, Hs⟩
  isplitl [Hd]
  · iexists _
    isplitr
    rotate_left
    · iexact Hd
    · ipureintro; rw [View.read_write_univ]; exact hfs
  · iexists fs
    isplitr
    · ipureintro; exact hfs
    · iexact Hs

end Effects

end Cert.Hold
-- ==== Proof.Cells.lean ====
/-
  The exchange between the four devices: who sends where, which part of which
  buffer each transfer uses, and the agreement its semaphores keep.

  Device `c` sends its row statistics of each of its two row blocks to the three
  other devices.  Block `k` sent with offset `a + 1` lands on device `far c a` in
  slot `rev a` of the landing buffer; so slot `j` of device `c` is filled by
  `far c j`.  Before anything is sent every device signals the barrier of the
  other three, and with each signal hands over the slots the addressee is to
  fill.  A landing pays the owner of the landing semaphore with the slot at the
  sender's statistics; a finished send pays the sender with the share of the
  statistics it had lent out.
-/
module

public import proofs.«01_k».proof.Proof.Hold
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.ValueIdx

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep bigSepL bigSep_univ_eq_bigSepL bigSep_singleton)
open Idealize.ShloMosaic.ValueIdx (ix2)
open scoped Idealize.SL.BI
open Idealize.SL.BI.BIBase Idealize.SL.BI.Laws Idealize.SL.ProofMode Idealize.SL.Sem
open Idealize.ShloMosaic.Rounds
open Transfers (Flight)

variable {F : FTy → Type} [FloatOps F]

/-! ## The resources: the staging's, the exchange's, and counters for copies on a device -/

abbrev UB : Type := URounds (GSem nD τ sig) (Fin 3)
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB UC).trans embR
abbrev EC : UEmb Counters (MT nD τ sig Unit (Elt F) ℕ UU ℕ) := countersEmb (U := UU)

variable (m : (ℓ : Loc nD τ sig) → Buf (Elt F) ℓ) (ρ : Dev nD → PrngReg)

/-- The memory at launch: arbitrary contents, every semaphore counter zero,
    arbitrary generator registers. -/
def s₀ : MemSt nD τ sig (Elt F) := ⟨m, fun _ => 0, ρ⟩

/-! ## Which device -/

/-- The device `j + 1` places after `c`. -/
def far (c : Dev nD) (j : Fin 3) : Dev nD := ⟨(c.val + (j.val + 1)) % 4, Nat.mod_lt _ (by decide)⟩

/-- The offset that leads back: from `far c a`, the device at `rev a` is `c`. -/
def rev (a : Fin 3) : Fin 3 := ⟨2 - a.val, by omega⟩

/-- Taking the opposite offset twice changes nothing. -/
theorem rev_rev (a : Fin 3) : rev (rev a) = a := by revert a; decide
/-- Going on by an offset and then by its opposite leads back. -/
theorem far_rev (c : Dev nD) (a : Fin 3) : far (far c a) (rev a) = c := by revert c a; decide
/-- Going on by the opposite offset and then by the offset leads back. -/
theorem far_rev' (c : Dev nD) (a : Fin 3) : far (far c (rev a)) a = c := by revert c a; decide

/-- The devices the kernel addresses, in the order it computes them. -/
theorem dev1_eq (c : Dev nD) : (⟨k0_dev1 c, k0_dev1_lt c⟩ : Dev nD) = far c 0 := by revert c; decide +kernel
/-- The second signal goes to the device two places on. -/
theorem dev2_eq (c : Dev nD) : (⟨k0_dev2 c, k0_dev2_lt c⟩ : Dev nD) = far c 1 := by revert c; decide +kernel
/-- The third signal goes to the device three places on. -/
theorem dev3_eq (c : Dev nD) : (⟨k0_dev3 c, k0_dev3_lt c⟩ : Dev nD) = far c 2 := by revert c; decide +kernel
/-- The first send of block 0 goes two places on. -/
theorem dev4_eq (c : Dev nD) : (⟨k0_dev4 c, k0_dev4_lt c⟩ : Dev nD) = far c 1 := by revert c; decide +kernel
/-- The second send of block 0 goes one place on. -/
theorem dev5_eq (c : Dev nD) : (⟨k0_dev5 c, k0_dev5_lt c⟩ : Dev nD) = far c 0 := by revert c; decide +kernel
/-- The third send of block 0 goes three places on. -/
theorem dev6_eq (c : Dev nD) : (⟨k0_dev6 c, k0_dev6_lt c⟩ : Dev nD) = far c 2 := by revert c; decide +kernel
/-- The first send of block 1 goes two places on. -/
theorem dev7_eq (c : Dev nD) : (⟨k0_dev7 c, k0_dev7_lt c⟩ : Dev nD) = far c 1 := by revert c; decide +kernel
/-- The second send of block 1 goes one place on. -/
theorem dev8_eq (c : Dev nD) : (⟨k0_dev8 c, k0_dev8_lt c⟩ : Dev nD) = far c 0 := by revert c; decide +kernel
/-- The third send of block 1 goes three places on. -/
theorem dev9_eq (c : Dev nD) : (⟨k0_dev9 c, k0_dev9_lt c⟩ : Dev nD) = far c 2 := by revert c; decide +kernel

/-! ## Which part of which buffer -/

/-- A transfer: which of the three places (the offset for a send, the slot for a
    landing) and which row block. -/
abbrev Xf : Type := Fin 3 × Fin 2

/-- A row block lies within the array. -/
theorem inb_rows (k : Fin 2) : ∀ a, (![1024 * k.val, 0] : Fin 2 → Nat) a + S1024x1024.size a ≤ S2048x1024.size a := by
  revert k; decide
/-- A block of statistics lies within their buffer. -/
theorem inb_cols (k : Fin 2) : ∀ a, (![0, 1024 * k.val] : Fin 2 → Nat) a + S2x1024.size a ≤ S2x2048.size a := by
  revert k; decide
/-- A landing slot lies within the landing buffer. -/
theorem inb_slot (x : Xf) : ∀ a, (![x.1.val, 0, 1024 * x.2.val] : Fin 3 → Nat) a + S1x2x1024.size a ≤ S3x2x2048.size a := by
  revert x; decide

/-- Row block `k` of a 2048-row array. -/
abbrev rowsR (k : Fin 2) : Rect S2048x1024 := Rect.unit (s := S2048x1024) ![1024 * k.val, 0] S1024x1024.size (inb_rows k)
/-- Column block `k` of the statistics buffer. -/
abbrev colsR (k : Fin 2) : Rect S2x2048 := Rect.unit (s := S2x2048) ![0, 1024 * k.val] S2x1024.size (inb_cols k)
/-- Column block `x.2` of slot `x.1` of the landing buffer. -/
abbrev slotR (x : Xf) : Rect S3x2x2048 := Rect.unit (s := S3x2x2048) ![x.1.val, 0, 1024 * x.2.val] S1x2x1024.size (inb_slot x)

/-- Row block `k` of the input, of its on-chip copy, of the on-chip result and of the result. -/
abbrev aM (k : Fin 2) : Memref sig .tc .hbm S1024x1024 .f32 := (Memref.whole main_arg0 : Memref sig .tc .hbm S2048x1024 .f32).slice (rowsR k) (fun _ => rfl)
abbrev xM (k : Fin 2) : Memref sig .tc .vmem S1024x1024 .f32 := (Memref.whole cc0_scratch0 : Memref sig .tc .vmem S2048x1024 .f32).slice (rowsR k) (fun _ => rfl)
abbrev oM (k : Fin 2) : Memref sig .tc .vmem S1024x1024 .f32 := (Memref.whole cc0_scratch1 : Memref sig .tc .vmem S2048x1024 .f32).slice (rowsR k) (fun _ => rfl)
abbrev zM (k : Fin 2) : Memref sig .tc .hbm S1024x1024 .f32 := (Memref.whole main_v1 : Memref sig .tc .hbm S2048x1024 .f32).slice (rowsR k) (fun _ => rfl)
/-- Column block `k` of the device's own statistics. -/
abbrev lM (k : Fin 2) : Memref sig .tc .vmem S2x1024 .f32 := (Memref.whole cc0_scratch2 : Memref sig .tc .vmem S2x2048 .f32).slice (colsR k) (fun _ => rfl)
/-- Column block `x.2` of landing slot `x.1`, its slot axis dropped. -/
abbrev rM (x : Xf) : Memref sig .tc .vmem S2x1024 .f32 :=
  ((Memref.whole cc0_scratch3 : Memref sig .tc .vmem S3x2x2048 .f32).slice (slotR x) (fun _ => rfl)).squeeze S2x1024 squeezes_S1x2x1024_S2x1024

/-! ## Which semaphore -/

/-- The barrier semaphore. -/
abbrev barS : Sem sig := (SemArray.scalar (sig.barrier 0 rfl) : Sems sig S_).sem
/-- The semaphores of the copies in (2, 3) and out (4, 5), of the sends (6 to 11)
    and of the landings (12 to 17). -/
def inS (k : Fin 2) : DmaSem sig := ⟨2 + k.val, by revert k; decide⟩
def outS (k : Fin 2) : DmaSem sig := ⟨4 + k.val, by revert k; decide⟩
def sendS (x : Xf) : DmaSem sig := ⟨6 + (2 * x.1.val + x.2.val), by revert x; decide⟩
def recvS (x : Xf) : DmaSem sig := ⟨12 + (2 * x.1.val + x.2.val), by revert x; decide⟩

abbrev barCell (c : Dev nD) : GSem nD τ sig := ((c : Thread nD τ), .reg barS)
abbrev sendCell (c : Dev nD) (x : Xf) : GSem nD τ sig := ((c : Thread nD τ), .dma (sendS x))
abbrev recvCell (c : Dev nD) (x : Xf) : GSem nD τ sig := ((c : Thread nD τ), .dma (recvS x))

/-- The exchange's semaphores of one device: the barrier, the sends, the landings. -/
abbrev CI : Type := Unit ⊕ (Xf ⊕ Xf)
def csem : CI → SemLoc sig
  | .inl _ => .reg barS
  | .inr (.inl x) => .dma (sendS x)
  | .inr (.inr x) => .dma (recvS x)
/-- Different names of exchange semaphores are different semaphores. -/
theorem csem_inj : Function.Injective csem := by decide
abbrev kcell (ck : Dev nD × CI) : GSem nD τ sig := ((ck.1 : Thread nD τ), csem ck.2)

/-- So they are on all the devices together. -/
theorem kcell_inj : Function.Injective kcell := by
  rintro ⟨c, k⟩ ⟨c', k'⟩ h
  have h1 : c = c' := congrArg (fun g : GSem nD τ sig => g.1.1) h
  have h2 : csem k = csem k' := congrArg (fun g : GSem nD τ sig => g.2) h
  rw [h1, csem_inj h2]

/-- What one transfer credits. -/
abbrev N : ℕ := (lM 0).view.dmaCredit
/-- A transfer credits at least one unit. -/
theorem N_pos : 0 < N := View.dmaCredit_pos _ (by decide)
/-- What one copy of a row block credits. -/
abbrev Nx : ℕ := (xM 0).view.dmaCredit
/-- A copy of a row block credits at least one unit. -/
theorem Nx_pos : 0 < Nx := View.dmaCredit_pos _ (by decide)

/-- The transfer a send or landing semaphore's number stands for. -/
def xfOf (n : ℕ) : Xf := (⟨n / 2 % 3, Nat.mod_lt _ (by decide)⟩, ⟨n % 2, Nat.mod_lt _ (by decide)⟩)
/-- A transfer is found again from its semaphore's place. -/
theorem xfOf_eq (x : Xf) : xfOf (2 * x.1.val + x.2.val) = x := by revert x; decide

/-! ## What the buffers hold -/

/-- Row block `k` of device `c`'s input. -/
def xblk (c : Dev nD) (k : Fin 2) : S1024x1024.Idx → Elt F .f32 :=
  fun i => (m ((c : Thread nD τ).loc main_arg0) : S2048x1024.Idx → Elt F .f32) ((rowsR k).emb i)

/-- The statistics of a block: its row sums, and below them the row sums of its squares. -/
def statV (xb : S1024x1024.Idx → Elt F .f32) : S2x1024.Idx → Elt F .f32 := fun i =>
  if (i 0).val = 0 then k0_pay4 (k0_pay2 xb) (ix2 (⟨0, by decide⟩ : Fin 1) (i 1))
  else k0_pay5 (k0_pay3 xb) (ix2 (⟨0, by decide⟩ : Fin 1) (i 1))

/-- Device `c`'s statistics of its block `k`. -/
def statAt (c : Dev nD) (k : Fin 2) : S2x1024.Idx → Elt F .f32 := statV (xblk m c k)

/-- The share of the statistics lent to a send of offset `a`; the remaining quarter stays for the loads. -/
def shr : Fin 3 → PosShare TreeShare
  | 0 => fullShare.left.left
  | 1 => fullShare.left.right
  | 2 => fullShare.right.left

def sendPay (c : Dev nD) (x : Xf) : sProp 𝕄 := owns (c : Thread nD τ) (lM x.2) (shr x.1) (statAt m c x.2)
def recvPay (c : Dev nD) (x : Xf) : sProp 𝕄 := owns (c : Thread nD τ) (rM x) fullShare (statAt m (far c x.1) x.2)
/-- What `far c (rev j)` hands over with its signal: both blocks of its slot `j`, which device `c` fills. -/
def barPay (c : Dev nD) (j : Fin 3) : sProp 𝕄 :=
  iprop((∃ X, owns (far c (rev j) : Thread nD τ) (rM (j, 0)) fullShare X) ∗ (∃ X, owns (far c (rev j) : Thread nD τ) (rM (j, 1)) fullShare X))

def dmaPay (c : Dev nD) (q : DmaSem sig) : sProp 𝕄 :=
  if 12 ≤ q.val then recvPay m c (xfOf (q.val - 12)) else if 6 ≤ q.val then sendPay m c (xfOf (q.val - 6)) else iprop(emp)

instance sendPay_storable (c : Dev nD) (x : Xf) : BI.Storable (upEmb : UEmb _ 𝕄) (sendPay m c x) := by unfold sendPay; infer_instance
instance recvPay_storable (c : Dev nD) (x : Xf) : BI.Storable (upEmb : UEmb _ 𝕄) (recvPay m c x) := by unfold recvPay; infer_instance
instance barPay_storable (c : Dev nD) (j : Fin 3) : BI.Storable (upEmb : UEmb _ 𝕄) (barPay (F := F) c j) := by unfold barPay; infer_instance
instance dmaPay_storable (c : Dev nD) (q : DmaSem sig) : BI.Storable (upEmb : UEmb _ 𝕄) (dmaPay m c q) := by
  unfold dmaPay; (repeat' split) <;> infer_instance

/-! ## The agreement -/

/-- The duties of a semaphore: three signals at a barrier, one transfer at a send or a landing. -/
def dutiesAt : SemLoc sig → Finset (Fin 3)
  | .reg s => if s = barS then Finset.univ else ∅
  | .dma q => if 6 ≤ q.val then {0} else ∅

/-- One round: a barrier takes three signals of one unit, a send or landing semaphore one transfer's credit. -/
def Rd : Rounds.Schedule (GSem nD τ sig) (Fin 3) 𝕄 where
  duties g r := if r = 0 ∧ g.1.2 = .tc then dutiesAt g.2 else ∅
  unitless _ := False
  amount g _ _ := match g.2 with | .reg _ => 1 | .dma _ => N
  payload g _ d := match g.2 with | .reg _ => barPay g.1.1 d | .dma q => dmaPay m g.1.1 q
  amount_pos g _ _ _ := by
    cases g.2 with
    | reg _ => exact Nat.one_pos
    | dma _ => exact N_pos

instance Rd_storable (g : GSem nD τ sig) (r : ℕ) (d : Fin 3) : BI.Storable (upEmb : UEmb _ 𝕄) ((Rd (F := F) m).payload g r d) := by
  obtain ⟨t, sm⟩ := g
  cases sm with
  | reg s => exact barPay_storable t.1 d
  | dma q => exact dmaPay_storable m t.1 q

section Sched
variable (c : Dev nD) (x : Xf)

omit [FloatOps F] in
/-- A send semaphore is paid once. -/
theorem dutiesAt_send : dutiesAt (.dma (sendS x)) = {0} := by revert x; decide
omit [FloatOps F] in
/-- A landing semaphore is paid once. -/
theorem dutiesAt_recv : dutiesAt (.dma (recvS x)) = {0} := by revert x; decide

/-- The barrier is paid by three devices. -/
theorem duties_bar : (Rd (F := F) m).duties (barCell c) 0 = Finset.univ := rfl
/-- A send semaphore of any device is paid once. -/
theorem duties_send : (Rd (F := F) m).duties (sendCell c x) 0 = {0} := dutiesAt_send x
/-- A landing semaphore of any device is paid once. -/
theorem duties_recv : (Rd (F := F) m).duties (recvCell c x) 0 = {0} := dutiesAt_recv x
/-- After the first round nothing is paid any more. -/
theorem duties_later (g : GSem nD τ sig) : ∀ r, 1 ≤ r → (Rd (F := F) m).duties g r = ∅ :=
  fun r hr => if_neg fun h => by omega

/-- The barrier waits for three units. -/
theorem expect_bar : (Rd (F := F) m).expect (barCell c) 0 = 3 := rfl
/-- A send semaphore waits for one transfer's units. -/
theorem expect_send : (Rd (F := F) m).expect (sendCell c x) 0 = N := by
  unfold Schedule.expect Schedule.amountOf; rw [duties_send, Finset.sum_singleton]; rfl
/-- A landing semaphore waits for one transfer's units. -/
theorem expect_recv : (Rd (F := F) m).expect (recvCell c x) 0 = N := by
  unfold Schedule.expect Schedule.amountOf; rw [duties_recv, Finset.sum_singleton]; rfl

/-- A signal brings the signalling device's slots. -/
theorem payload_bar (d : Fin 3) : (Rd (F := F) m).payload (barCell c) 0 d = barPay c d := rfl
/-- A finished send gives back the share it had borrowed. -/
theorem payload_send (d : Fin 3) : (Rd (F := F) m).payload (sendCell c x) 0 d = sendPay m c x := by
  show dmaPay m c (sendS x) = _
  have h1 : ¬ 12 ≤ (sendS x).val := by revert x; decide
  have h2 : 6 ≤ (sendS x).val := Nat.le_add_right _ _
  unfold dmaPay
  rw [if_neg h1, if_pos h2, show (sendS x).val - 6 = 2 * x.1.val + x.2.val from Nat.add_sub_cancel_left _ _, xfOf_eq]
/-- A landing brings the slot, filled with the sender's statistics. -/
theorem payload_recv (d : Fin 3) : (Rd (F := F) m).payload (recvCell c x) 0 d = recvPay m c x := by
  show dmaPay m c (recvS x) = _
  have h1 : 12 ≤ (recvS x).val := Nat.le_add_right _ _
  unfold dmaPay
  rw [if_pos h1, show (recvS x).val - 12 = 2 * x.1.val + x.2.val from Nat.add_sub_cancel_left _ _, xfOf_eq]

/-- What the barrier's three signals hand over together. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide)]
  rfl
/-- All that a send semaphore brings. -/
theorem rest_send : bigSep ((Rd (F := F) m).duties (sendCell c x) 0 \ ∅) (fun d => (Rd (F := F) m).payload (sendCell c x) 0 d) = sendPay m c x := by
  rw [Finset.sdiff_empty, duties_send, bigSep_singleton, payload_send]
/-- All that a landing semaphore brings. -/
theorem rest_recv : bigSep ((Rd (F := F) m).duties (recvCell c x) 0 \ ∅) (fun d => (Rd (F := F) m).payload (recvCell c x) 0 d) = recvPay m c x := by
  rw [Finset.sdiff_empty, duties_recv, bigSep_singleton, payload_recv]

end Sched

/-! ## What is owed, and in which order waits may happen -/

/-- The tally of a list of payments. -/
def owedL : List (GSem nD τ sig × ℕ) → CellTallies nD τ sig Unit
  | [] => 0
  | x :: l => owedL l + tallyAt x.1 () x.2

/-- Device `c`'s landing payments of the sends in a list. -/
def landings (c : Dev nD) (l : List Xf) : List (GSem nD τ sig × ℕ) :=
  l.map fun x => (recvCell (far c x.1) (rev x.1, x.2), N)

/-- Everything device `c` owes, in the order it pays: three signals, then six landings. -/
def dues (c : Dev nD) : List (GSem nD τ sig × ℕ) :=
  (barCell (far c 0), 1) :: (barCell (far c 1), 1) :: (barCell (far c 2), 1)
    :: landings c [(1, 0), (0, 0), (2, 0), (1, 1), (0, 1), (2, 1)]

def O₀ (c : Dev nD) : CellTallies nD τ sig Unit := owedL (dues c)

def L (g : GSem nD τ sig) : Finset Unit := if g.1.2 = .tc then {()} else ∅
/-- Barriers at level 1, landings at 2, everything else at 0. -/
def levS : SemLoc sig → ℕ
  | .reg s => 1
  | .dma q => if 12 ≤ q.val then 2 else 0
def lv (g : GSem nD τ sig) (_ : Unit) : ℕ := levS g.2

/-- Only the TensorCores owe anything. -/
theorem L_of_ne (g : GSem nD τ sig) (h : g.1.2 ≠ .tc) : L g = ∅ := if_neg h
/-- Every semaphore of a TensorCore has its level. -/
theorem L_tc (c : Dev nD) (sm : SemLoc sig) : L ((c : Thread nD τ), sm) = {()} := if_pos rfl

/-- A cell a list of payments touches is the cell of one of them. -/
theorem owedL_pos {l : List (GSem nD τ sig × ℕ)} {g : GSem nD τ sig} {u : Unit} (h : 0 < owedL l g u) : ∃ x ∈ l, g = x.1 := by
  induction l with
  | nil => exact absurd h (Nat.lt_irrefl 0)
  | cons x l ih =>
    unfold owedL at h
    rw [Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := ih h
      exact ⟨y, List.mem_cons_of_mem _ hy, e⟩

/-- A device may wait at a semaphore while every payment it still owes is at a higher level. -/
theorem mayWait_owed (c : Dev nD) (sm : SemLoc sig) (l : List (GSem nD τ sig × ℕ))
    (hl : ∀ x ∈ l, x.1.1.2 = .tc ∧ levS sm < levS x.1.2) :
    (levAts L lv : sProp 𝕄) ⊢ MayWait (c : Thread nD τ) sm () (owedL l) :=
  MayOwe.of_cut (L := L) (lev := lv) (levS sm) (fun p hp => by rw [Finset.mem_singleton.mp hp, L_tc]; exact Finset.mem_singleton_self _)
    (fun g u hg => by
      obtain ⟨x, hx, rfl⟩ := owedL_pos hg
      show () ∈ L x.1
      unfold L; rw [if_pos (hl x hx).1]; exact Finset.mem_singleton_self _)
    (fun p hp => by rw [Finset.mem_singleton.mp hp]; exact Nat.le_refl _)
    (fun g u hg => by
      obtain ⟨x, hx, rfl⟩ := owedL_pos hg
      exact (hl x hx).2)

/-- Landing payments are at the highest level. -/
theorem landings_high (c : Dev nD) (l : List Xf) {n : ℕ} (hn : n < 2) :
    ∀ x ∈ landings c l, x.1.1.2 = .tc ∧ n < levS x.1.2 := by
  intro x hx
  obtain ⟨y, -, rfl⟩ := List.mem_map.mp hx
  refine ⟨rfl, ?_⟩
  show n < levS (.dma (recvS _))
  have h : 12 ≤ (recvS (rev y.1, y.2)).val := Nat.le_add_right _ _
  show n < if 12 ≤ (recvS (rev y.1, y.2)).val then 2 else 0
  rw [if_pos h]; exact hn

/-- Every payment is above level 0. -/
theorem dues_high (c : Dev nD) : ∀ x ∈ dues c, x.1.1.2 = .tc ∧ 0 < levS x.1.2 := by
  intro x hx
  rcases List.mem_cons.mp hx with rfl | hx
  · exact ⟨rfl, Nat.one_pos⟩
  rcases List.mem_cons.mp hx with rfl | hx
  · exact ⟨rfl, Nat.one_pos⟩
  rcases List.mem_cons.mp hx with rfl | hx
  · exact ⟨rfl, Nat.one_pos⟩
  · exact landings_high c _ (by decide) x hx

end Cert.Norm
-- ==== Proof.Steps.lean ====
/-
  The effects of the exchange, one rule each, stated once for every device,
  offset, slot and block: a signal, the wait at the barrier, a send, the wait
  for a landing, the wait for a send, and the copies on a device.
-/
module

public import proofs.«01_k».proof.Proof.Cells

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep bigSepL bigSep_univ_eq_bigSepL bigSep_singleton bigSep_elim)
open scoped Idealize.SL.BI
open Idealize.SL.BI.BIBase Idealize.SL.BI.Laws Idealize.SL.ProofMode Idealize.SL.Sem
open Idealize.ShloMosaic.Rounds
open Transfers (Flight)

variable {F : FTy → Type} [FloatOps F]
local notation "𝕄" => MT nD τ sig Unit (Elt F) ℕ UU ℕ

variable (m : (ℓ : Loc nD τ sig) → Buf (Elt F) ℓ)

abbrev 𝒱₀ : Variants := Variants.none

/-- What every device knows: each exchange semaphore of each device keeps the
    agreement, under some name, and the levels. -/
def info (K : Dev nD × CI → ℕ) : sProp 𝕄 :=
  iprop((bigSep Finset.univ fun ck => iprop(cellInv ER (Rd m) (K ck) (kcell ck) ∗ reached ER (kcell ck) 0)) ∗ levAts L lv)

instance info_persistent (K : Dev nD × CI → ℕ) : BI.Persistent (info m K) := by unfold info; infer_instance

/-- What is known of one exchange semaphore. -/
theorem info_at (K : Dev nD × CI → ℕ) (ck : Dev nD × CI) :
    info m K ⊢ iprop(cellInv ER (Rd m) (K ck) (kcell ck) ∗ reached ER (kcell ck) 0) :=
  Entails.trans (by unfold info; iintro ⟨H, -⟩; iexact H)
    (bigSep_elim (Φ := fun ck => (iprop(cellInv ER (Rd m) (K ck) (kcell ck) ∗ reached ER (kcell ck) 0) : sProp 𝕄)) (Finset.mem_univ ck))

/-- It keeps the agreement. -/
theorem info_inv (K : Dev nD × CI → ℕ) (c : Dev nD) (x : CI) :
    info m K ⊢ cellInv ER (Rd m) (K (c, x)) ((c : Thread nD τ), csem x) :=
  (info_at m K (c, x)).trans (by iintro ⟨H, -⟩; iexact H)

/-- It has reached its first round. -/
theorem info_reached (K : Dev nD × CI → ℕ) (c : Dev nD) (x : CI) :
    info m K ⊢ reached ER ((c : Thread nD τ), csem x) 0 :=
  (info_at m K (c, x)).trans (by iintro ⟨-, H⟩; iexact H)

/-- The levels are known. -/
theorem info_lev (K : Dev nD × CI → ℕ) : info m K ⊢ levAts L lv := by
  unfold info
  iintro ⟨-, H⟩
  iexact H

/-- Device `c` still has the payments of a list to make. -/
def owing (c : Dev nD) (l : List (GSem nD τ sig × ℕ)) : sProp 𝕄 := iprop(∃ W, owes (c : Thread nD τ) (owedL l) W)

/-- Device `c` holds some contents of the slots `far c j` fills. -/
def slots (c : Dev nD) (j : Fin 3) : sProp 𝕄 :=
  iprop((∃ X, owns (c : Thread nD τ) (rM (j, 0)) fullShare X) ∗ (∃ X, owns (c : Thread nD τ) (rM (j, 1)) fullShare X))

/-- What a signal hands over are the signalling device's slots for the addressee. -/
theorem barPay_far (c : Dev nD) (j : Fin 3) : (barPay (far c j) j : sProp 𝕄) = slots c j := by
  unfold barPay slots; rw [far_rev]
/-- What a device receives at the barrier are slots on the devices it sends to. -/
theorem barPay_eq (c : Dev nD) (j : Fin 3) : (barPay c j : sProp 𝕄) = slots (far c (rev j)) j := rfl

/-- What device `c` needs for send `x`: the token of its own send semaphore, the
    token of the landing semaphore it pays, and its place at the send semaphore. -/
def sendTk (c : Dev nD) (x : Xf) : sProp 𝕄 :=
  iprop(dutyTok ER (sendCell c x) 0 0 ∗ dutyTok ER (recvCell (far c x.1) (rev x.1, x.2)) 0 0 ∗ atPos ER (sendCell c x) 0 ∅ 0)
/-- A send under way. -/
def pendTk (c : Dev nD) (x : Xf) : sProp 𝕄 := iprop(cred (tallyAt (sendCell c x) () N) ∗ atPos ER (sendCell c x) 0 ∅ 0)
/-- A landing device `c` may wait for. -/
def landTk (c : Dev nD) (x : Xf) : sProp 𝕄 := iprop(cred (tallyAt (recvCell c x) () N) ∗ atPos ER (recvCell c x) 0 ∅ 0)
/-- The signals device `c` may wait for. -/
def barTk (c : Dev nD) : sProp 𝕄 := iprop(cred (tallyAt (barCell c) () 3) ∗ atPos ER (barCell c) 0 ∅ 0)

section Rules
variable (K : Dev nD × CI → ℕ) (c : Dev nD) {α : Type} {Q : α → sProp (MT nD τ sig Unit (Elt F) ℕ UU ℕ)}
  {k : PUnit → Prog (TpuEff nD τ sig (Elt F) Λ₀ .tc) α}

/-- The end of an exchange semaphore: its counter is zero again and the device's own. -/
theorem close_cell (x : CI) :
    iprop(info m K ∗ atPos ER (kcell (c, x)) 1 ∅ 0) ⊢ (|={Set.univ}=> semVal (kcell (c, x)) 0 : sProp 𝕄) := by
  iintro ⟨#HI, Hat⟩
  iapply (Rounds.cell_close ER (Rd m) (Set.mem_univ (K (c, x))) (fun h => h) (R := 0 + 1) (duties_later m (kcell (c, x))))
  isplitr; · iapply (info_inv m K c x); iexact HI
  iexact Hat

/-- A signal to the device at offset `j`: it pays that device's barrier, handing over the slots it fills. -/
theorem wp_tell (j : Fin 3) {d : Dev nD} (hd : d = far c j) {s : Sem sig} (hs : s = barS) (l : List (GSem nD τ sig × ℕ)) :
    iprop(info m K ∗ owing c ((barCell (far c j), 1) :: l) ∗ dutyTok ER (barCell (far c j)) 0 j ∗ slots c j)
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d, .tc) s (1#32 : BitVec 32).toInt) k) Q) := by
  subst hd hs
  unfold owing
  iintro ⟨#HI, ⟨%W, HO⟩, Ht, Hs⟩ Hk
  iapply (Rounds.wp_signal 𝒱₀ ER (Rd m) (c : Thread nD τ) none (dst := (far c j : Thread nD τ)) (κ := K (far c j, .inl ()))
      (d := j) (by rw [duties_bar]; exact Finset.mem_univ _) (show 1 = _ by decide) () (owedL l) rfl) $$ [HO Ht Hs]
  · isplitr; · iapply (info_inv m K (far c j) (.inl ())); iexact HI
    isplitl [HO]; · iexact HO
    isplitl [Ht]; · iexact Ht
    isplitl [Hs]; · rw [payload_bar, barPay_far]; iexact Hs
    iapply (info_reached m K (far c j) (.inl ())); iexact HI
  iintro HO
  iapply Hk
  iexists W; iexact HO

/-- The wait for the three signals, with only landings still to pay: the slots
    of the three other devices that this device fills. -/
theorem wp_gather {s : Sem sig} (hs : s = barS) (l : List Xf) :
    iprop(info m K ∗ barTk c ∗ owing c (landings c l))
      ⊢ iprop((iprop(owing c (landings c l) ∗ semVal (barCell c) 0 ∗ slots (far c 2) 0 ∗ slots (far c 1) 1 ∗ slots (far c 0) 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s (3#32 : BitVec 32).toInt) k) Q) := by
  subst hs
  unfold owing barTk
  iintro ⟨#HI, ⟨Hc, Hat⟩, ⟨%W, HO⟩⟩ Hk
  iapply (Rounds.wp_wait_rest_token 𝒱₀ ER (Rd m) (c : Thread nD τ) none (κ := K (c, .inl ()))
      (wpE_semWait_eq 𝒱₀ (c : Thread nD τ) none Set.univ) (Set.mem_univ _) () (O := owedL (landings c l)) (W := W) (R := 0) (m := 0) (T := ∅)
      (by rw [expect_bar]; decide)) $$ [Hc HO Hat]
  · isplitr; · iapply (info_inv m K c (.inl ())); iexact HI
    isplitl [Hc]; · iexact Hc
    isplitl [HO]; · iexact HO
    isplitr
    · iapply (mayWait_owed c (.reg barS) (landings c l) (landings_high c l (by decide)))
      iapply (info_lev m K); iexact HI
    iexact Hat
  iintro ⟨HO, Hat, -, Hpay⟩
  ihave Hp := (Entails.of_eq (rest_bar m c)) $$ Hpay
  imod (close_cell m K c (.inl ())) $$ [Hat] with Hat
  · isplitr; · iexact HI
    iexact Hat
  iapply Hk
  isplitl [HO]; · iexists _; iexact HO
  isplitl [Hat]; · iexact Hat
  iexact Hp

/-- A send of block `x.2` at offset `x.1`: the share of the statistics lent to it and the slot it fills go in. -/
theorem wp_pass (x : Xf) {d : Dev nD} (hd : d = far c x.1) (y : Xf) (hy : y = (rev x.1, x.2))
    {src : Memref sig .tc .vmem S2x1024 .f32} (hsrc' : src = lM x.2) {dst : Memref sig .tc .vmem S2x1024 .f32} (hdst' : dst = rM y)
    {sS sR : DmaSem sig} (hsS : sS = sendS x) (hsR : sR = recvS y)
    {hsc : (dst : Memref sig (Dev.tc d : Thread nD τ).2.kind .vmem S2x1024 .f32).view.ref.isScScratch = false}
    {hsrc : src.view.WordExact} {hdst : dst.view.WordExact}
    {hsem : DmaTarget.Typed .vmem (.dma sR) (.remote (Dev.tc d : Thread nD τ) (dst : Memref sig .tc .vmem S2x1024 .f32) (.dma sS) hsc)}
    (l : List Xf) :
    iprop(info m K ∗ owns (c : Thread nD τ) (lM x.2) (shr x.1) (statAt m c x.2)
        ∗ (∃ X, owns (far c x.1 : Thread nD τ) (rM y) fullShare X)
        ∗ owing c (landings c (x :: l)) ∗ sendTk c x)
      ⊢ iprop(((pendTk c x ∗ owing c (landings c l))
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc d : Thread nD τ) dst (.dma sS) hsc) (.dma sR) hsrc hdst hsem) k) Q) := by
  subst hd hy hsrc' hdst' hsS hsR
  unfold owing owns sendTk pendTk
  iintro ⟨#HI, ⟨%fs, %hfs, Hl⟩, ⟨%X, %fd, %hfd, Hr⟩, ⟨%W, HO⟩, HtS, HtR, Hat⟩ Hk
  iapply (Rounds.wp_send_pointsTo 𝒱₀ ER (Rd m) (c : Thread nD τ) none (κ₁ := K (c, .inr (.inl x))) (κ₂ := K (far c x.1, .inr (.inr (rev x.1, x.2))))
    (r₁ := 0) (r₂ := 0) (d₁ := 0) (d₂ := 0) (fs := fs) (fd := fd) (q := shr x.1)
    (by rw [duties_send]; exact Finset.mem_singleton_self _) (by rw [duties_recv]; exact Finset.mem_singleton_self _)
    () () N rfl rfl rfl (owedL (landings c l)) rfl (W := W)
    (by
      rw [payload_send]; unfold sendPay owns
      iintro H; iexists fs; isplitr
      · ipureintro; exact hfs
      · iexact H)
    (by
      rw [payload_recv]; unfold recvPay owns
      iintro H; iexists _; isplitr
      rotate_left
      · iexact H
      · ipureintro; rw [View.read_write_univ, hfs, far_rev])) $$ [Hl Hr HO HtS HtR]
  · isplitr; · iapply (info_inv m K c (.inr (.inl x))); iexact HI
    isplitr; · iapply (info_inv m K (far c x.1) (.inr (.inr (rev x.1, x.2)))); iexact HI
    isplitl [Hl]; · iexact Hl
    isplitl [Hr]; · iexact Hr
    isplitl [HO]; · iexact HO
    isplitl [HtS]; · iexact HtS
    isplitr; · iapply (info_reached m K c (.inr (.inl x))); iexact HI
    isplitl [HtR]; · iexact HtR
    iapply (info_reached m K (far c x.1) (.inr (.inr (rev x.1, x.2)))); iexact HI
  iintro ⟨Hc, HO⟩
  iapply Hk
  isplitl [Hc Hat]
  · isplitl [Hc]; · iexact Hc
    iexact Hat
  iexists W; iexact HO

/-- The wait for the landing in slot `x.1` of block `x.2`, all payments made: the slot at the sender's statistics. -/
theorem wp_landed (x : Xf) {sem : DmaSem sig} (hsem : sem = recvS x) {sp : Space} {s' : Shape} {e' : EltTy} {srcw : Memref sig .tc sp s' e'}
    {dstw : Memref sig .tc .vmem S2x1024 .f32} (hd : dstw = rM x) {h1 : srcw.view.WordExact} {h2 : dstw.view.WordExact} :
    iprop(info m K ∗ landTk c x ∗ owing c [])
      ⊢ iprop((iprop(owing c [] ∗ semVal (recvCell c x) 0 ∗ owns (c : Thread nD τ) (rM x) fullShare (statAt m (far c x.1) x.2))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw h1 h2) k) Q) := by
  subst hsem hd
  have hdst : (rM x).view.dmaCredit = N := rfl
  unfold owing landTk
  iintro ⟨#HI, ⟨Hc, Hat⟩, ⟨%W, HO⟩⟩ Hk
  iapply (Rounds.wp_wait_rest_token 𝒱₀ ER (Rd m) (c : Thread nD τ) none (κ := K (c, .inr (.inr x)))
      (wpE_waitDma2_eq 𝒱₀ (c : Thread nD τ) none Set.univ) (Set.mem_univ _) () (O := owedL []) (W := W) (R := 0) (m := 0) (T := ∅)
      (by rw [Nat.zero_add, expect_recv, hdst])) $$ [Hc HO Hat]
  · isplitr; · iapply (info_inv m K c (.inr (.inr x))); iexact HI
    isplitl [Hc]; · rw [hdst]; iexact Hc
    isplitl [HO]; · iexact HO
    isplitr; · rw [show owedL [] = (0 : CellTallies nD τ sig Unit) from rfl, MayWait_zero]; iempintro
    iexact Hat
  iintro ⟨HO, Hat, -, Hpay⟩
  ihave Hp := (Entails.of_eq (rest_recv m c x)) $$ Hpay
  imod (close_cell m K c (.inr (.inr x))) $$ [Hat] with Hat
  · isplitr; · iexact HI
    iexact Hat
  iapply Hk
  isplitl [HO]; · iexists _; iexact HO
  isplitl [Hat]; · iexact Hat
  unfold recvPay; iexact Hp

/-- The wait for the end of send `x`, all payments made: the share lent to it. -/
theorem wp_sent (x : Xf) {sem : DmaSem sig} (hsem : sem = sendS x) {sp : Space} {s' : Shape} {e' : EltTy} {srcw : Memref sig .tc sp s' e'}
    {dstw : Memref sig .tc .vmem S2x1024 .f32} (hd : dstw = lM x.2) {h1 : srcw.view.WordExact} {h2 : dstw.view.WordExact} :
    iprop(info m K ∗ pendTk c x ∗ owing c [])
      ⊢ iprop((iprop(owing c [] ∗ semVal (sendCell c x) 0 ∗ owns (c : Thread nD τ) (lM x.2) (shr x.1) (statAt m c x.2))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw h1 h2) k) Q) := by
  subst hsem hd
  have hdst : (lM x.2).view.dmaCredit = N := rfl
  unfold owing pendTk
  iintro ⟨#HI, ⟨Hc, Hat⟩, ⟨%W, HO⟩⟩ Hk
  iapply (Rounds.wp_wait_rest_token 𝒱₀ ER (Rd m) (c : Thread nD τ) none (κ := K (c, .inr (.inl x)))
      (wpE_waitDma2_eq 𝒱₀ (c : Thread nD τ) none Set.univ) (Set.mem_univ _) () (O := owedL []) (W := W) (R := 0) (m := 0) (T := ∅)
      (by rw [Nat.zero_add, expect_send, hdst])) $$ [Hc HO Hat]
  · isplitr; · iapply (info_inv m K c (.inr (.inl x))); iexact HI
    isplitl [Hc]; · rw [hdst]; iexact Hc
    isplitl [HO]; · iexact HO
    isplitr; · rw [show owedL [] = (0 : CellTallies nD τ sig Unit) from rfl, MayWait_zero]; iempintro
    iexact Hat
  iintro ⟨HO, Hat, -, Hpay⟩
  ihave Hp := (Entails.of_eq (rest_send m c x)) $$ Hpay
  imod (close_cell m K c (.inr (.inl x))) $$ [Hat] with Hat
  · isplitr; · iexact HI
    iexact Hat
  iapply Hk
  isplitl [HO]; · iexists _; iexact HO
  isplitl [Hat]; · iexact Hat
  unfold sendPay; iexact Hp

/-- The wait for a copy on the device, every payment still owed being above level 0:
    what the copy delivers, and its counter at zero. -/
theorem wp_copied {sem : DmaSem sig} (hlow : levS (.dma sem) = 0) {l : List (GSem nD τ sig × ℕ)} (hl : ∀ x ∈ l, x.1.1.2 = .tc ∧ 0 < levS x.1.2)
    {sp sp' : Space} {s s' : Shape} {e e' : EltTy} {srcw : Memref sig .tc sp' s' e'}
    {dstw : Memref sig .tc sp s e} {n : ℕ} (hN : dstw.view.dmaCredit = n) {h1 : srcw.view.WordExact} {h2 : dstw.view.WordExact} {D : sProp (MT nD τ sig Unit (Elt F) ℕ UU ℕ)} :
    iprop(info m K ∗ Flight EC (c : Thread nD τ) (.dma sem) () n D ∗ owing c l)
      ⊢ iprop((iprop(owing c l ∗ semVal ((c : Thread nD τ), .dma sem) 0 ∗ D)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem srcw dstw h1 h2) k) Q) := by
  unfold owing
  iintro ⟨#HI, Hf, ⟨%W, HO⟩⟩ Hk
  iapply (Transfers.wp_waitLocalO EC 𝒱₀ (c : Thread nD τ) none () hN (D := D) (O := owedL l) (W := W)) $$ [Hf HO]
  · isplitl [Hf]; · iexact Hf
    isplitl [HO]; · iexact HO
    iapply (mayWait_owed c (.dma sem) l (fun x hx => by rw [hlow]; exact hl x hx))
    iapply (info_lev m K); iexact HI
  iintro ⟨HD, Hv, HO⟩
  iapply Hk
  isplitl [HO]; · iexists _; iexact HO
  isplitl [Hv]; · iexact Hv
  iexact HD

/-- Starting copy `k` into the chip. -/
theorem wp_fetch (j : Fin 2) {X : S1024x1024.Idx → Elt F .f32} {src : Memref sig .tc .hbm S1024x1024 .f32} (hs : src = aM j) {dst : Memref sig .tc .vmem S1024x1024 .f32} (hd : dst = xM j)
    {sem : DmaSem sig} (hsem : sem = inS j) {hsrc : src.view.WordExact} {hdst : dst.view.WordExact} {ht : DmaTarget.Typed (nD := nD) (τ := τ) (p := .tc) .hbm (.dma sem) (.here dst)} :
    iprop(owns (c : Thread nD τ) (aM j) fullShare X ∗ (∃ Y, owns (c : Thread nD τ) (xM j) fullShare Y) ∗ semVal ((c : Thread nD τ), .dma (inS j)) 0)
      ⊢ iprop((Flight EC (c : Thread nD τ) (.dma (inS j)) () Nx iprop(owns (c : Thread nD τ) (xM j) fullShare X ∗ owns (c : Thread nD τ) (aM j) fullShare X)
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sem) hsrc hdst ht) k) Q) := by
  subst hs hd hsem
  iintro ⟨Ha, ⟨%Y, Hx⟩, Hv⟩ Hk
  iapply (Hold.wp_copy_owns 𝒱₀ (c : Thread nD τ) none EC (X := X) (Y := Y) () Nx rfl Nx_pos) $$ [Ha Hx Hv]
  · isplitl [Ha]; · iexact Ha
    isplitl [Hx]; · iexact Hx
    iexact Hv
  iexact Hk

/-- Starting copy `k` out of the chip. -/
theorem wp_flush (j : Fin 2) {X : S1024x1024.Idx → Elt F .f32} {src : Memref sig .tc .vmem S1024x1024 .f32} (hs : src = oM j) {dst : Memref sig .tc .hbm S1024x1024 .f32} (hd : dst = zM j)
    {sem : DmaSem sig} (hsem : sem = outS j) {hsrc : src.view.WordExact} {hdst : dst.view.WordExact} {ht : DmaTarget.Typed (nD := nD) (τ := τ) (p := .tc) .vmem (.dma sem) (.here dst)} :
    iprop(owns (c : Thread nD τ) (oM j) fullShare X ∗ (∃ Y, owns (c : Thread nD τ) (zM j) fullShare Y) ∗ semVal ((c : Thread nD τ), .dma (outS j)) 0)
      ⊢ iprop((Flight EC (c : Thread nD τ) (.dma (outS j)) () Nx iprop(owns (c : Thread nD τ) (zM j) fullShare X ∗ owns (c : Thread nD τ) (oM j) fullShare X)
              -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sem) hsrc hdst ht) k) Q) := by
  subst hs hd hsem
  iintro ⟨Ha, ⟨%Y, Hx⟩, Hv⟩ Hk
  iapply (Hold.wp_copy_owns 𝒱₀ (c : Thread nD τ) none EC (X := X) (Y := Y) () Nx rfl Nx_pos) $$ [Ha Hx Hv]
  · isplitl [Ha]; · iexact Ha
    isplitl [Hx]; · iexact Hx
    iexact Hv
  iexact Hk

end Rules

end Cert.Norm
-- ==== Proof.Stats.lean ====
/-
  The pieces of a block's computation between the transfers: storing the two
  rows of the statistics, lending the statistics out in quarters, loading a
  landing slot, and the normalised block.
-/
module

public import proofs.«01_k».proof.Proof.Steps

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep bigSepL bigSep_univ_eq_bigSepL bigSep_singleton bigSep_elim)
open scoped Idealize.SL.BI
open Idealize.SL.BI.BIBase Idealize.SL.BI.Laws Idealize.SL.ProofMode Idealize.SL.Sem
open Idealize.ShloMosaic.Rounds
open Transfers (Flight)
open Idealize.ShloMosaic.ValueIdx (ix2)

variable {F : FTy → Type} [FloatOps F]
local notation "𝕄" => MT nD τ sig Unit (Elt F) ℕ UU ℕ

variable (m : (ℓ : Loc nD τ sig) → Buf (Elt F) ℓ)

/-! ## Storing the statistics -/

/-- One row of one block lies within the statistics' buffer. -/
theorem inb_row (r k : Fin 2) : ∀ a, (![r.val, 1024 * k.val] : Fin 2 → Nat) a + S1x1024.size a ≤ S2x2048.size a := by
  revert r k; decide
/-- Row `r` of column block `k` of the statistics buffer. -/
abbrev rowR (r k : Fin 2) : Rect S2x2048 := Rect.unit (s := S2x2048) ![r.val, 1024 * k.val] S1x1024.size (inb_row r k)
abbrev lW : Memref sig .tc .vmem S2x2048 .f32 := Memref.whole cc0_scratch2

omit [FloatOps F] in
/-- A row of column block `k` lies in the block. -/
theorem row_sub (r k : Fin 2) : (lW.access (rowR r k)).set ⊆ (lM k).view.set := by
  show (lW.view.slice (rowR r k)).set ⊆ (lW.view.slice (colsR k)).set
  rw [View.set_slice, View.set_slice]
  refine Finset.map_subset_map.2 fun i hi => ?_
  rw [Rect.mem_set_unit] at hi ⊢
  intro a
  have h := hi a
  revert h
  revert a
  rw [Fin.forall_fin_two]
  refine ⟨fun h => ⟨Nat.zero_le _, (i 0).isLt⟩, fun h => h⟩

omit [FloatOps F] in
/-- Where the block's index `i` lies is where its row's index lies. -/
theorem row_emb (k : Fin 2) (r : Fin 2) (i : S2x1024.Idx) (hi : (i 0).val = r.val) :
    (lM k).view.emb i = (lW.access (rowR r k)).emb (ix2 (⟨0, by decide⟩ : Fin 1) (i 1)) := by
  show lW.view.emb ((colsR k).emb i) = lW.view.emb ((rowR r k).emb _)
  congr 1
  funext a
  apply Fin.ext
  revert a
  rw [Fin.forall_fin_two]
  constructor
  · show 0 + 1 * (i 0).val = r.val + 1 * 0
    omega
  · rfl

/-- After the two rows are stored, the block reads them one above the other. -/
theorem stats_read (k : Fin 2) (f : (lW.access (rowR 0 k)).ty.Contents (Elt F)) (A B : S1x1024.Idx → Elt F .f32) :
    (lM k).view.read (Elt F) ((lW.access (rowR 1 k)).write (Elt F) ((lW.access (rowR 0 k)).write (Elt F) f A Finset.univ) B Finset.univ)
      = fun i => if (i 0).val = 0 then A (ix2 (⟨0, by decide⟩ : Fin 1) (i 1)) else B (ix2 (⟨0, by decide⟩ : Fin 1) (i 1)) := by
  funext i
  rw [View.read_apply]
  by_cases h : (i 0).val = 0
  · rw [if_pos h, View.write_of_not_mem, row_emb k 0 i h, View.write_emb_of_mem _ _ (Finset.mem_univ _)]
    · rfl
    · rw [row_emb k 0 i h]
      intro hm
      have h0 : (lW.access (rowR 0 k)).emb (ix2 (⟨0, by decide⟩ : Fin 1) (i 1)) ∈ (lW.view.slice (rowR 0 k)).set :=
        Finset.mem_map_of_mem _ (Finset.mem_univ _)
      have h1 : (lW.access (rowR 0 k)).emb (ix2 (⟨0, by decide⟩ : Fin 1) (i 1)) ∈ (lW.view.slice (rowR 1 k)).set := hm
      rw [View.set_slice] at h0 h1
      have hd : Disjoint (rowR 0 k).set (rowR 1 k).set := Rect.unit_disjoint 0 (Or.inl (Nat.le_refl 1))
      exact Finset.disjoint_left.mp ((Finset.disjoint_map lW.view.emb).mpr hd) h0 h1
  · rw [if_neg h, row_emb k 1 i (by have h2 : (i 0).val < 2 := (i 0).isLt; show _ = 1; omega), View.write_emb_of_mem _ _ (Finset.mem_univ _)]
    rfl

section Rules
variable (c : Dev nD) {α : Type} {Q : α → sProp (MT nD τ sig Unit (Elt F) ℕ UU ℕ)} {k : PUnit → Prog (TpuEff nD τ sig (Elt F) Λ₀ .tc) α}

/-- The two rows of block `j` stored, each after a load whose value is dropped. -/
theorem wp_stats (j : Fin 2) {A B : S1x1024.Idx → Elt F .f32} (S : S2x1024.Idx → Elt F .f32)
    (hS : (fun i => if (i 0).val = 0 then A (ix2 (⟨0, by decide⟩ : Fin 1) (i 1)) else B (ix2 (⟨0, by decide⟩ : Fin 1) (i 1))) = S)
    {h0 : lW.view.LoadsAt (rowR 0 j).toLoadRect} {h1 : lW.view.LoadsAt (rowR 1 j).toLoadRect}
    {hx0 : (lW.access (rowR 0 j)).Stores Finset.univ} {hx1 : (lW.access (rowR 1 j)).Stores Finset.univ}
    {hm0 : (Finset.univ : Finset (rowR 0 j).shape.Idx) = Finset.univ ∨ ∀ a, (rowR 0 j).stride a = 1}
    {hm1 : (Finset.univ : Finset (rowR 1 j).shape.Idx) = Finset.univ ∨ ∀ a, (rowR 1 j).stride a = 1} :
    (∃ X, owns (c : Thread nD τ) (lM j) fullShare X : sProp 𝕄)
      ⊢ iprop((owns (c : Thread nD τ) (lM j) fullShare S
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load lW (rowR 0 j).toLoadRect h0) fun _ => .op (.store lW (rowR 0 j) A Finset.univ hx0 hm0) fun _ =>
                .op (.load lW (rowR 1 j).toLoadRect h1) fun _ => .op (.store lW (rowR 1 j) B Finset.univ hx1 hm1) k) Q) := by
  unfold owns
  iintro ⟨%X, %f, %hf, H⟩ Hk
  iapply (wp_load_rect 𝒱₀ (c : Thread nD τ) none Set.univ (m := lW) (r := rowR 0 j) (row_sub 0 j)) $$ H; iintro H
  iapply (wp_store 𝒱₀ (c : Thread nD τ) none Set.univ (m := lW) (r := rowR 0 j) (Mk := Finset.univ) (row_sub 0 j)) $$ H; iintro H
  iapply (wp_load_rect 𝒱₀ (c : Thread nD τ) none Set.univ (m := lW) (r := rowR 1 j) (row_sub 1 j)) $$ H; iintro H
  iapply (wp_store 𝒱₀ (c : Thread nD τ) none Set.univ (m := lW) (r := rowR 1 j) (Mk := Finset.univ) (row_sub 1 j)) $$ H; iintro H
  iapply Hk
  iexists _
  isplitr
  rotate_left
  · iexact H
  · ipureintro; exact (stats_read j f A B).trans hS

end Rules

/-- The share of the statistics a device keeps for its own loads. -/
abbrev own4 : PosShare TreeShare := fullShare.right.right

/-- The statistics in four quarters: one for each send, one kept. -/
theorem quarters (c : Dev nD) (j : Fin 2) (X : S2x1024.Idx → Elt F .f32) :
    (owns (c : Thread nD τ) (lM j) fullShare X : sProp 𝕄)
      ⊣⊢ iprop((owns (c : Thread nD τ) (lM j) (shr 0) X ∗ owns (c : Thread nD τ) (lM j) (shr 1) X)
          ∗ owns (c : Thread nD τ) (lM j) (shr 2) X ∗ owns (c : Thread nD τ) (lM j) own4 X) :=
  (owns_halves (c : Thread nD τ) (lM j) fullShare X).trans
    (sep_congr (owns_halves (c : Thread nD τ) (lM j) fullShare.left X) (owns_halves (c : Thread nD τ) (lM j) fullShare.right X))

/-! ## The normalised block -/

/-- A landing slot's values under the three-axis index a load gives them. -/
def lift3 (X : S2x1024.Idx → Elt F .f32) : S1x2x1024.Idx → Elt F .f32 :=
  fun i => X ((Shape.reshapeEquiv squeezes_S1x2x1024_S2x1024.numel_eq).symm i)

/-- Loading a landing slot, which stays held. -/
theorem wp_load_slot (c : Dev nD) {α : Type} {Q : α → sProp (MT nD τ sig Unit (Elt F) ℕ UU ℕ)} (x : Xf)
    {h : (Memref.whole cc0_scratch3 : Memref sig .tc .vmem S3x2x2048 .f32).view.LoadsAt (slotR x).toLoadRect}
    {k : (S1x2x1024.Idx → Elt F .f32) → Prog (TpuEff nD τ sig (Elt F) Λ₀ .tc) α} {q : PosShare TreeShare} {X : S2x1024.Idx → Elt F .f32} :
    (owns (c : Thread nD τ) (rM x) q X : sProp 𝕄)
      ⊢ iprop((owns (c : Thread nD τ) (rM x) q X -∗ wp frame (wpE (defs₀ (F := F)) 𝒱₀ (c : Thread nD τ) none) Set.univ (k (lift3 X)) Q)
        -∗ wp frame (wpE (defs₀ (F := F)) 𝒱₀ (c : Thread nD τ) none) Set.univ
            (.op (.load (Memref.whole cc0_scratch3 : Memref sig .tc .vmem S3x2x2048 .f32) (slotR x).toLoadRect h) k) Q) :=
  Hold.wp_load_squeezed 𝒱₀ (c : Thread nD τ) none (fun _ => rfl) squeezes_S1x2x1024_S2x1024

/-- A block normalised from its own statistics, the three landed ones, the scale and the shift. -/
def normV (s r0 r1 r2 : S2x1024.Idx → Elt F .f32) (x : S1024x1024.Idx → Elt F .f32) (g b : S1x1024.Idx → Elt F .f32) : S1024x1024.Idx → Elt F .f32 :=
  k0_pay10 (k0_pay8 s (lift3 r0) (lift3 r1) (lift3 r2)) (k0_pay9 s (lift3 r0) (lift3 r1) (lift3 r2)) x g b

/-- The second block's values, computed in the other cut, are the same function. -/
theorem pay13_eq (s r0 r1 r2 : S2x1024.Idx → Elt F .f32) (x : S1024x1024.Idx → Elt F .f32) (g b : S1x1024.Idx → Elt F .f32) :
    k0_pay13 (k0_pay11 s (lift3 r0)) (k0_pay12 (lift3 r1)) (lift3 r2) x g b = normV s r0 r1 r2 x g b := rfl

/-- The second block's statistics are the same function of the block. -/
theorem pay67_eq (xb : S1024x1024.Idx → Elt F .f32) :
    (fun i : S2x1024.Idx => if (i 0).val = 0 then k0_pay6 (k0_pay1 (F := F)) xb (ix2 (⟨0, by decide⟩ : Fin 1) (i 1))
      else k0_pay7 (k0_pay1 (F := F)) xb (ix2 (⟨0, by decide⟩ : Fin 1) (i 1))) = statV xb := rfl

/-- Device `c`'s scale and shift, one block of its columns. -/
def gAt (c : Dev nD) : S1x1024.Idx → Elt F .f32 := m ((c : Thread nD τ).loc main_arg1)
def bAt (c : Dev nD) : S1x1024.Idx → Elt F .f32 := m ((c : Thread nD τ).loc main_arg2)

/-- Device `c`'s result for its row block `j`. -/
def outV (c : Dev nD) (j : Fin 2) : S1024x1024.Idx → Elt F .f32 :=
  normV (statAt m c j) (statAt m (far c 0) j) (statAt m (far c 1) j) (statAt m (far c 2) j) (xblk m c j) (gAt m c) (bAt m c)

end Cert.Norm
-- ==== Proof.Body.lean ====
/-
  The kernel's body, in the parts it is printed in: what each part needs and
  what it leaves.  Every line of a proof below is one effect of the kernel, by
  the rule for that effect.
-/
module

public import proofs.«01_k».proof.Proof.Stats

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep bigSepL bigSep_univ_eq_bigSepL bigSep_singleton bigSep_elim)
open scoped Idealize.SL.BI
open Idealize.SL.BI.BIBase Idealize.SL.BI.Laws Idealize.SL.ProofMode Idealize.SL.Sem
open Idealize.ShloMosaic.Rounds
open Transfers (Flight)
open Idealize.ShloMosaic.ValueIdx (ix2)

variable {F : FTy → Type} [FloatOps F]
local notation "𝕄" => MT nD τ sig Unit (Elt F) ℕ UU ℕ

variable (m : (ℓ : Loc nD τ sig) → Buf (Elt F) ℓ)

/-! ## What a part needs and leaves -/

/-- A slot device `c` fills, at some contents: the one send `x` lands in. -/
def fill (c : Dev nD) (x : Xf) : sProp 𝕄 := iprop(∃ X, owns (far c x.1 : Thread nD τ) (rM (rev x.1, x.2)) fullShare X)
/-- Block `j` of a buffer at a value, or at some value. -/
def aO (c : Dev nD) (j : Fin 2) : sProp 𝕄 := owns (c : Thread nD τ) (aM j) fullShare (xblk m c j)
def xO (c : Dev nD) (j : Fin 2) : sProp 𝕄 := owns (c : Thread nD τ) (xM j) fullShare (xblk m c j)
def oO (c : Dev nD) (j : Fin 2) : sProp 𝕄 := owns (c : Thread nD τ) (oM j) fullShare (outV m c j)
def zO (c : Dev nD) (j : Fin 2) : sProp 𝕄 := owns (c : Thread nD τ) (zM j) fullShare (outV m c j)
def xAny (c : Dev nD) (j : Fin 2) : sProp 𝕄 := iprop(∃ Y, owns (c : Thread nD τ) (xM j) fullShare Y)
def oAny (c : Dev nD) (j : Fin 2) : sProp 𝕄 := iprop(∃ Y, owns (c : Thread nD τ) (oM j) fullShare Y)
def zAny (c : Dev nD) (j : Fin 2) : sProp 𝕄 := iprop(∃ Y, owns (c : Thread nD τ) (zM j) fullShare Y)
def lAny (c : Dev nD) (j : Fin 2) : sProp 𝕄 := iprop(∃ Y, owns (c : Thread nD τ) (lM j) fullShare Y)
/-- A share of the statistics of block `j`. -/
def lO (c : Dev nD) (j : Fin 2) (q : PosShare TreeShare) : sProp 𝕄 := owns (c : Thread nD τ) (lM j) q (statAt m c j)
/-- A landed slot. -/
def rO (c : Dev nD) (x : Xf) : sProp 𝕄 := owns (c : Thread nD τ) (rM x) fullShare (statAt m (far c x.1) x.2)
/-- A counter of the device at zero. -/
def z0 (c : Dev nD) (q : DmaSem sig) : sProp 𝕄 := semVal ((c : Thread nD τ), .dma q) 0
/-- The copies under way. -/
def inFl (c : Dev nD) (j : Fin 2) : sProp 𝕄 :=
  Flight EC (c : Thread nD τ) (.dma (inS j)) () Nx iprop(owns (c : Thread nD τ) (xM j) fullShare (xblk m c j) ∗ owns (c : Thread nD τ) (aM j) fullShare (xblk m c j))
def outFl (c : Dev nD) (j : Fin 2) : sProp 𝕄 :=
  Flight EC (c : Thread nD τ) (.dma (outS j)) () Nx iprop(owns (c : Thread nD τ) (zM j) fullShare (outV m c j) ∗ owns (c : Thread nD τ) (oM j) fullShare (outV m c j))
/-- The staged scale and shift. -/
def gbO (c : Dev nD) : sProp 𝕄 :=
  iprop((((c : Thread nD τ).loc cc0_stg0_0) ↦{fullShare} (gAt m c : Buf (Elt F) ((c : Thread nD τ).loc cc0_stg0_0)))
    ∗ (((c : Thread nD τ).loc cc0_stg1_0) ↦{fullShare} (bAt m c : Buf (Elt F) ((c : Thread nD τ).loc cc0_stg1_0))))

omit [FloatOps F] in
/-- The zero offset of a whole two-axis read. -/
theorem hz : (![0, 0] : Fin 2 → Nat) = fun _ => 0 := by funext a; revert a; decide
omit [FloatOps F] in
/-- Reading all of the first staged row gives its contents. -/
theorem read_g (f : (cc0_stg0_0 : Ref sig .tc).ty.Contents (Elt F)) (h) :
    (Memref.whole cc0_stg0_0 : Memref sig .tc .vmem S1x1024 .f32).view.readAt (Elt F) (Rect.unit (s := S1x1024) ![0, 0] S1x1024.size h).toLoadRect f = f :=
  Memref.readAt_unit_zero (Elt F) cc0_stg0_0 hz _ f
omit [FloatOps F] in
/-- Reading all of the second staged row gives its contents. -/
theorem read_b (f : (cc0_stg1_0 : Ref sig .tc).ty.Contents (Elt F)) (h) :
    (Memref.whole cc0_stg1_0 : Memref sig .tc .vmem S1x1024 .f32).view.readAt (Elt F) (Rect.unit (s := S1x1024) ![0, 0] S1x1024.size h).toLoadRect f = f :=
  Memref.readAt_unit_zero (Elt F) cc0_stg1_0 hz _ f

omit [FloatOps F] in
/-- The copies' and the sends' semaphores are at the lowest level. -/
theorem lev_dma (q : DmaSem sig) (h : q.val < 12) : levS (.dma q) = 0 := if_neg (by omega)

variable (K : Dev nD × CI → ℕ) (c : Dev nD)

/-- The first part: both copies of the input start, and the first signal goes out. -/
theorem part1  (Kt : (Σ' (d0 : Dev nD) (v2 : BitVec 32) (v11 : Sems sig S_) (v27 : BitVec 32) (v28 : BitVec 32), BitVec 32) → sProp (MT nD τ sig Unit (Elt F) ℕ UU ℕ)) :
    iprop(info m K ∗ owing c (dues c) ∗ aO m c 0 ∗ aO m c 1 ∗ xAny c 0 ∗ xAny c 1 ∗ z0 c (inS 0) ∗ z0 c (inS 1) ∗ dutyTok ER (barCell (far c 0)) 0 0 ∗ slots c 0)
      ⊢ iprop((∀ v2 v27 v28 w, iprop(owing c ((barCell (far c 1), 1) :: (barCell (far c 2), 1) :: landings c [(1, 0), (0, 0), (2, 0), (1, 1), (0, 1), (2, 1)]) ∗ inFl m c 0 ∗ inFl m c 1) -∗ Kt ⟨c, v2, SemArray.scalar (sig.barrier 0 rfl), v27, v28, w⟩) -∗ wp frame (wpE (defs₀ (F := F)) 𝒱₀ (c : Thread nD τ) none) Set.univ (k0_part1 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt) := by
  rw [k0_part1_eq_skeleton]; unfold k0_part1_skel
  simp only [semSignalWord, semWaitWord, Prog.lift, Prog.bind_op, Prog.bind_ret, Prog.pure_eq_ret, wp_deviceId]
  unfold aO xAny z0 inFl
  iintro ⟨#HI, HO, Ha0, Ha1, Hx0, Hx1, Hi0, Hi1, Ht0, Hs0⟩ Hk
  iapply (wp_fetch c 0 rfl rfl rfl) $$ [Ha0 Hx0 Hi0]
  · isplitl [Ha0]; · iexact Ha0
    isplitl [Hx0]; · iexact Hx0
    iexact Hi0
  iintro Hc0
  iapply (wp_fetch c 1 rfl rfl rfl) $$ [Ha1 Hx1 Hi1]
  · isplitl [Ha1]; · iexact Ha1
    isplitl [Hx1]; · iexact Hx1
    iexact Hi1
  iintro Hc1
  iapply (wp_tell m K c 0 (dev1_eq c) rfl _) $$ [HO Ht0 Hs0]
  · isplitr; · iexact HI
    isplitl [HO]; · iexact HO
    isplitl [Ht0]; · iexact Ht0
    iexact Hs0
  iintro HO
  rw [wp_ret]; imodintro
  iapply Hk
  isplitl [HO]; · iexact HO
  isplitl [Hc0]; · iexact Hc0
  iexact Hc1

/-- The second part: the other two signals, then the first row block is on the chip and read. -/
theorem part2 (v2 v27 v28 w : BitVec 32) (Kt : (Σ' (v51 : FVec F S1x1024 .f32) (v57 : FVec F S1x1024 .f32), FVec F S1x1024 .f32) → sProp (MT nD τ sig Unit (Elt F) ℕ UU ℕ)) :
    iprop(info m K ∗ owing c ((barCell (far c 1), 1) :: (barCell (far c 2), 1) :: landings c [(1, 0), (0, 0), (2, 0), (1, 1), (0, 1), (2, 1)]) ∗ dutyTok ER (barCell (far c 1)) 0 1 ∗ slots c 1 ∗ dutyTok ER (barCell (far c 2)) 0 2 ∗ slots c 2 ∗ inFl m c 0)
      ⊢ iprop((iprop(owing c (landings c [(1, 0), (0, 0), (2, 0), (1, 1), (0, 1), (2, 1)]) ∗ z0 c (inS 0) ∗ xO m c 0 ∗ aO m c 0) -∗ Kt ⟨k0_pay1, k0_pay2 (xblk m c 0), k0_pay3 (xblk m c 0)⟩) -∗ wp frame (wpE (defs₀ (F := F)) 𝒱₀ (c : Thread nD τ) none) Set.univ (k0_part2 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl)) v27 v28 w) Kt) := by
  rw [k0_part2_eq_skeleton]; unfold k0_part2_skel
  simp only [semSignalWord, semWaitWord, Prog.lift, Prog.bind_op, Prog.bind_ret, Prog.pure_eq_ret, wp_deviceId]
  unfold aO xO z0 inFl
  iintro ⟨#HI, HO, Ht1, Hs1, Ht2, Hs2, Hc0⟩ Hk
  iapply (wp_tell m K c 1 (dev2_eq c) rfl _) $$ [HO Ht1 Hs1]
  · isplitr; · iexact HI
    isplitl [HO]; · iexact HO
    isplitl [Ht1]; · iexact Ht1
    iexact Hs1
  iintro HO
  iapply (wp_tell m K c 2 (dev3_eq c) rfl _) $$ [HO Ht2 Hs2]
  · isplitr; · iexact HI
    isplitl [HO]; · iexact HO
    isplitl [Ht2]; · iexact Ht2
    iexact Hs2
  iintro HO
  iapply (wp_copied m K c (sem := inS 0) (lev_dma _ (by decide)) (landings_high c _ (by decide)) rfl) $$ [Hc0 HO]
  · isplitr; · iexact HI
    isplitl [Hc0]; · iexact Hc0
    iexact HO
  iintro ⟨HO, Hi0, Hx0, Ha0⟩
  iapply (Hold.wp_load_owns 𝒱₀ (c : Thread nD τ) none (fun _ => rfl)) $$ Hx0; iintro Hx0
  rw [wp_ret]; imodintro
  iapply Hk
  isplitl [HO]; · iexact HO
  isplitl [Hi0]; · iexact Hi0
  isplitl [Hx0]; · iexact Hx0
  iexact Ha0

/-- The third part: the statistics of the first block are stored, the barrier is passed, the first send starts. -/
theorem part3 (v2 : BitVec 32) (Kt : (Σ' (v86 : BitVec 32), BitVec 32) → sProp (MT nD τ sig Unit (Elt F) ℕ UU ℕ)) :
    iprop(info m K ∗ owing c (landings c [(1, 0), (0, 0), (2, 0), (1, 1), (0, 1), (2, 1)]) ∗ lAny c 0 ∗ barTk c ∗ sendTk c (1, 0))
      ⊢ iprop((∀ w w', iprop(owing c (landings c [(0, 0), (2, 0), (1, 1), (0, 1), (2, 1)]) ∗ semVal (barCell c) 0 ∗ pendTk c (1, 0) ∗ lO m c 0 (shr 0) ∗ lO m c 0 (shr 2) ∗ lO m c 0 own4 ∗ fill c (0, 0) ∗ fill c (2, 0) ∗ fill c (1, 1) ∗ fill c (0, 1) ∗ fill c (2, 1)) -∗ Kt ⟨w, w'⟩) -∗ wp frame (wpE (defs₀ (F := F)) 𝒱₀ (c : Thread nD τ) none) Set.univ (k0_part3 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (SemArray.scalar (sig.barrier 0 rfl)) (k0_pay2 (xblk m c 0)) (k0_pay3 (xblk m c 0))) Kt) := by
  rw [k0_part3_eq_skeleton]; unfold k0_part3_skel
  simp only [semSignalWord, semWaitWord, Prog.lift, Prog.bind_op, Prog.bind_ret, Prog.pure_eq_ret, wp_deviceId]
  unfold lAny lO fill
  iintro ⟨#HI, HO, Hl0, HB, HS10⟩ Hk
  iapply (wp_stats c 0 (A := k0_pay4 (k0_pay2 (xblk m c 0))) (B := k0_pay5 (k0_pay3 (xblk m c 0))) (statAt m c 0) rfl) $$ [Hl0]
  · iexact Hl0
  iintro Hl0
  iapply (wp_gather m K c rfl _) $$ [HB HO]
  · isplitr; · iexact HI
    isplitl [HB]; · iexact HB
    iexact HO
  iintro ⟨HO, Hzb, Hs0, Hs1, Hs2⟩
  unfold slots
  icases Hs0 with ⟨Hf20, Hf21⟩
  icases Hs1 with ⟨Hf10, Hf11⟩
  icases Hs2 with ⟨Hf00, Hf01⟩
  ihave ⟨⟨Hq00, Hq10⟩, Hq20, Hq40⟩ := (quarters c 0 (statAt m c 0)).1 $$ Hl0
  iapply (wp_pass m K c (1, 0) (dev4_eq c) (1, 0) rfl rfl rfl rfl rfl _) $$ [Hq10 Hf10 HO HS10]
  · isplitr; · iexact HI
    isplitl [Hq10]; · iexact Hq10
    isplitl [Hf10]; · iexact Hf10
    isplitl [HO]; · iexact HO
    iexact HS10
  iintro ⟨Hp10, HO⟩
  rw [wp_ret]; imodintro
  iapply Hk
  isplitl [HO]; · iexact HO
  isplitl [Hzb]; · iexact Hzb
  isplitl [Hp10]; · iexact Hp10
  isplitl [Hq00]; · iexact Hq00
  isplitl [Hq20]; · iexact Hq20
  isplitl [Hq40]; · iexact Hq40
  isplitl [Hf00]; · iexact Hf00
  isplitl [Hf20]; · iexact Hf20
  isplitl [Hf11]; · iexact Hf11
  isplitl [Hf01]; · iexact Hf01
  iexact Hf21

/-- The fourth part: the second send of the first block starts. -/
theorem part4 (v2 v86 v88 : BitVec 32) (Kt : PUnit → sProp (MT nD τ sig Unit (Elt F) ℕ UU ℕ)) :
    iprop(info m K ∗ owing c (landings c [(0, 0), (2, 0), (1, 1), (0, 1), (2, 1)]) ∗ lO m c 0 (shr 0) ∗ fill c (0, 0) ∗ sendTk c (0, 0))
      ⊢ iprop((iprop(owing c (landings c [(2, 0), (1, 1), (0, 1), (2, 1)]) ∗ pendTk c (0, 0)) -∗ Kt ⟨⟩) -∗ wp frame (wpE (defs₀ (F := F)) 𝒱₀ (c : Thread nD τ) none) Set.univ (k0_part4 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v86 v88) Kt) := by
  rw [k0_part4_eq_skeleton]; unfold k0_part4_skel
  simp only [semSignalWord, semWaitWord, Prog.lift, Prog.bind_op, Prog.bind_ret, Prog.pure_eq_ret, wp_deviceId]
  unfold lO fill
  iintro ⟨#HI, HO, Hq00, Hf00, HS00⟩ Hk
  iapply (wp_pass m K c (0, 0) (dev5_eq c) (2, 0) rfl rfl rfl rfl rfl _) $$ [Hq00 Hf00 HO HS00]
  · isplitr; · iexact HI
    isplitl [Hq00]; · iexact Hq00
    isplitl [Hf00]; · iexact Hf00
    isplitl [HO]; · iexact HO
    iexact HS00
  iintro ⟨Hp00, HO⟩
  rw [wp_ret]; imodintro
  iapply Hk
  isplitl [HO]; · iexact HO
  iexact Hp00

/-- The fifth part: the third send of the first block, then the second block is on the chip and its statistics are stored. -/
theorem part5 (v2 : BitVec 32) (Kt : BitVec 32 → sProp (MT nD τ sig Unit (Elt F) ℕ UU ℕ)) :
    iprop(info m K ∗ owing c (landings c [(2, 0), (1, 1), (0, 1), (2, 1)]) ∗ lO m c 0 (shr 2) ∗ fill c (2, 0) ∗ sendTk c (2, 0) ∗ inFl m c 1 ∗ lAny c 1)
      ⊢ iprop((∀ w, iprop(owing c (landings c [(1, 1), (0, 1), (2, 1)]) ∗ pendTk c (2, 0) ∗ z0 c (inS 1) ∗ xO m c 1 ∗ aO m c 1 ∗ lO m c 1 fullShare) -∗ Kt w) -∗ wp frame (wpE (defs₀ (F := F)) 𝒱₀ (c : Thread nD τ) none) Set.univ (k0_part5 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 (k0_pay1 (F := F))) Kt) := by
  rw [k0_part5_eq_skeleton]; unfold k0_part5_skel
  simp only [semSignalWord, semWaitWord, Prog.lift, Prog.bind_op, Prog.bind_ret, Prog.pure_eq_ret, wp_deviceId]
  unfold aO xO lAny lO z0 inFl fill
  iintro ⟨#HI, HO, Hq20, Hf20, HS20, Hc1, Hl1⟩ Hk
  iapply (wp_pass m K c (2, 0) (dev6_eq c) (0, 0) rfl rfl rfl rfl rfl _) $$ [Hq20 Hf20 HO HS20]
  · isplitr; · iexact HI
    isplitl [Hq20]; · iexact Hq20
    isplitl [Hf20]; · iexact Hf20
    isplitl [HO]; · iexact HO
    iexact HS20
  iintro ⟨Hp20, HO⟩
  iapply (wp_copied m K c (sem := inS 1) (lev_dma _ (by decide)) (landings_high c _ (by decide)) rfl) $$ [Hc1 HO]
  · isplitr; · iexact HI
    isplitl [Hc1]; · iexact Hc1
    iexact HO
  iintro ⟨HO, Hi1, Hx1, Ha1⟩
  iapply (Hold.wp_load_owns 𝒱₀ (c : Thread nD τ) none (fun _ => rfl)) $$ Hx1; iintro Hx1
  iapply (wp_stats c 1 (A := k0_pay6 k0_pay1 (xblk m c 1)) (B := k0_pay7 k0_pay1 (xblk m c 1)) (statAt m c 1) rfl) $$ [Hl1]
  · iexact Hl1
  iintro Hl1
  rw [wp_ret]; imodintro
  iapply Hk
  isplitl [HO]; · iexact HO
  isplitl [Hp20]; · iexact Hp20
  isplitl [Hi1]; · iexact Hi1
  isplitl [Hx1]; · iexact Hx1
  isplitl [Ha1]; · iexact Ha1
  iexact Hl1

/-- The sixth part: two sends of the second block. -/
theorem part6 (v2 v150 : BitVec 32) (Kt : BitVec 32 → sProp (MT nD τ sig Unit (Elt F) ℕ UU ℕ)) :
    iprop(info m K ∗ owing c (landings c [(1, 1), (0, 1), (2, 1)]) ∗ lO m c 1 fullShare ∗ fill c (1, 1) ∗ fill c (0, 1) ∗ sendTk c (1, 1) ∗ sendTk c (0, 1))
      ⊢ iprop((∀ w, iprop(owing c (landings c [(2, 1)]) ∗ pendTk c (1, 1) ∗ pendTk c (0, 1) ∗ lO m c 1 (shr 2) ∗ lO m c 1 own4) -∗ Kt w) -∗ wp frame (wpE (defs₀ (F := F)) 𝒱₀ (c : Thread nD τ) none) Set.univ (k0_part6 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 v150) Kt) := by
  rw [k0_part6_eq_skeleton]; unfold k0_part6_skel
  simp only [semSignalWord, semWaitWord, Prog.lift, Prog.bind_op, Prog.bind_ret, Prog.pure_eq_ret, wp_deviceId]
  unfold lO fill
  iintro ⟨#HI, HO, Hl1, Hf11, Hf01, HS11, HS01⟩ Hk
  ihave ⟨⟨Hq01, Hq11⟩, Hq21, Hq41⟩ := (quarters c 1 (statAt m c 1)).1 $$ Hl1
  iapply (wp_pass m K c (1, 1) (dev7_eq c) (1, 1) rfl rfl rfl rfl rfl _) $$ [Hq11 Hf11 HO HS11]
  · isplitr; · iexact HI
    isplitl [Hq11]; · iexact Hq11
    isplitl [Hf11]; · iexact Hf11
    isplitl [HO]; · iexact HO
    iexact HS11
  iintro ⟨Hp11, HO⟩
  iapply (wp_pass m K c (0, 1) (dev8_eq c) (2, 1) rfl rfl rfl rfl rfl _) $$ [Hq01 Hf01 HO HS01]
  · isplitr; · iexact HI
    isplitl [Hq01]; · iexact Hq01
    isplitl [Hf01]; · iexact Hf01
    isplitl [HO]; · iexact HO
    iexact HS01
  iintro ⟨Hp01, HO⟩
  rw [wp_ret]; imodintro
  iapply Hk
  isplitl [HO]; · iexact HO
  isplitl [Hp11]; · iexact Hp11
  isplitl [Hp01]; · iexact Hp01
  isplitl [Hq21]; · iexact Hq21
  iexact Hq41

/-- The seventh part: the last send, and the first landing. -/
theorem part7 (v2 w : BitVec 32) (Kt : PUnit → sProp (MT nD τ sig Unit (Elt F) ℕ UU ℕ)) :
    iprop(info m K ∗ owing c (landings c [(2, 1)]) ∗ lO m c 1 (shr 2) ∗ fill c (2, 1) ∗ sendTk c (2, 1) ∗ landTk c (0, 0))
      ⊢ iprop((iprop(owing c [] ∗ pendTk c (2, 1) ∗ z0 c (recvS (0, 0)) ∗ rO m c (0, 0)) -∗ Kt ⟨⟩) -∗ wp frame (wpE (defs₀ (F := F)) 𝒱₀ (c : Thread nD τ) none) Set.univ (k0_part7 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 c v2 w) Kt) := by
  rw [k0_part7_eq_skeleton]; unfold k0_part7_skel
  simp only [semSignalWord, semWaitWord, Prog.lift, Prog.bind_op, Prog.bind_ret, Prog.pure_eq_ret, wp_deviceId]
  unfold lO rO z0 fill
  iintro ⟨#HI, HO, Hq21, Hf21, HS21, HL00⟩ Hk
  iapply (wp_pass m K c (2, 1) (dev9_eq c) (0, 1) rfl rfl rfl rfl rfl _) $$ [Hq21 Hf21 HO HS21]
  · isplitr; · iexact HI
    isplitl [Hq21]; · iexact Hq21
    isplitl [Hf21]; · iexact Hf21
    isplitl [HO]; · iexact HO
    iexact HS21
  iintro ⟨Hp21, HO⟩
  iapply (wp_landed m K c (0, 0) rfl rfl) $$ [HL00 HO]
  · isplitr; · iexact HI
    isplitl [HL00]; · iexact HL00
    iexact HO
  iintro ⟨HO, Hzr00, Hr00⟩
  rw [wp_ret]; imodintro
  iapply Hk
  isplitl [HO]; · iexact HO
  isplitl [Hp21]; · iexact Hp21
  isplitl [Hzr00]; · iexact Hzr00
  iexact Hr00

/-- The eighth part: the other two landings of the first block, and the totals. -/
theorem part8 (v2 : BitVec 32) (Kt : (Σ' (v230 : FVec F S2x1024 .f32), FVec F S1x1024 .f32) → sProp (MT nD τ sig Unit (Elt F) ℕ UU ℕ)) :
    iprop(info m K ∗ owing c [] ∗ landTk c (1, 0) ∗ landTk c (2, 0) ∗ lO m c 0 own4 ∗ rO m c (0, 0))
      ⊢ iprop((iprop(owing c [] ∗ z0 c (recvS (1, 0)) ∗ z0 c (recvS (2, 0)) ∗ lO m c 0 own4 ∗ rO m c (0, 0) ∗ rO m c (1, 0) ∗ rO m c (2, 0)) -∗ Kt ⟨k0_pay8 (statAt m c 0) (lift3 (statAt m (far c 0) 0)) (lift3 (statAt m (far c 1) 0)) (lift3 (statAt m (far c 2) 0)), k0_pay9 (statAt m c 0) (lift3 (statAt m (far c 0) 0)) (lift3 (statAt m (far c 1) 0)) (lift3 (statAt m (far c 2) 0))⟩) -∗ wp frame (wpE (defs₀ (F := F)) 𝒱₀ (c : Thread nD τ) none) Set.univ (k0_part8 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2) Kt) := by
  rw [k0_part8_eq_skeleton]; unfold k0_part8_skel
  simp only [semSignalWord, semWaitWord, Prog.lift, Prog.bind_op, Prog.bind_ret, Prog.pure_eq_ret, wp_deviceId]
  unfold lO rO z0
  iintro ⟨#HI, HO, HL10, HL20, Hq40, Hr00⟩ Hk
  iapply (wp_landed m K c (1, 0) rfl rfl) $$ [HL10 HO]
  · isplitr; · iexact HI
    isplitl [HL10]; · iexact HL10
    iexact HO
  iintro ⟨HO, Hzr10, Hr10⟩
  iapply (wp_landed m K c (2, 0) rfl rfl) $$ [HL20 HO]
  · isplitr; · iexact HI
    isplitl [HL20]; · iexact HL20
    iexact HO
  iintro ⟨HO, Hzr20, Hr20⟩
  iapply (Hold.wp_load_owns 𝒱₀ (c : Thread nD τ) none (fun _ => rfl)) $$ Hq40; iintro Hq40
  iapply (wp_load_slot c (0, 0)) $$ Hr00; iintro Hr00
  iapply (wp_load_slot c (1, 0)) $$ Hr10; iintro Hr10
  iapply (wp_load_slot c (2, 0)) $$ Hr20; iintro Hr20
  rw [wp_ret]; imodintro
  iapply Hk
  isplitl [HO]; · iexact HO
  isplitl [Hzr10]; · iexact Hzr10
  isplitl [Hzr20]; · iexact Hzr20
  isplitl [Hq40]; · iexact Hq40
  isplitl [Hr00]; · iexact Hr00
  isplitl [Hr10]; · iexact Hr10
  iexact Hr20

/-- The ninth part: the first block is normalised and its copy out starts. -/
theorem part9 (v2 : BitVec 32) (Kt : PUnit → sProp (MT nD τ sig Unit (Elt F) ℕ UU ℕ)) :
    iprop(info m K ∗ xO m c 0 ∗ gbO m c ∗ oAny c 0 ∗ zAny c 0 ∗ z0 c (outS 0))
      ⊢ iprop((iprop(xO m c 0 ∗ gbO m c ∗ outFl m c 0) -∗ Kt ⟨⟩) -∗ wp frame (wpE (defs₀ (F := F)) 𝒱₀ (c : Thread nD τ) none) Set.univ (k0_part9 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2 (k0_pay8 (statAt m c 0) (lift3 (statAt m (far c 0) 0)) (lift3 (statAt m (far c 1) 0)) (lift3 (statAt m (far c 2) 0))) (k0_pay9 (statAt m c 0) (lift3 (statAt m (far c 0) 0)) (lift3 (statAt m (far c 1) 0)) (lift3 (statAt m (far c 2) 0)))) Kt) := by
  rw [k0_part9_eq_skeleton]; unfold k0_part9_skel
  simp only [semSignalWord, semWaitWord, Prog.lift, Prog.bind_op, Prog.bind_ret, Prog.pure_eq_ret, wp_deviceId]
  unfold xO oAny zAny z0 outFl gbO
  iintro ⟨#HI, Hx0, Hgb, Ho0, Hz0, Ho0s⟩ Hk
  iapply (Hold.wp_load_owns 𝒱₀ (c : Thread nD τ) none (fun _ => rfl)) $$ Hx0; iintro Hx0
  icases Hgb with ⟨Hg, Hb⟩
  iapply (wp_load 𝒱₀ (c : Thread nD τ) none Set.univ (m := Memref.whole cc0_stg0_0) (Finset.subset_univ _)) $$ Hg; iintro Hg
  rw [read_g]
  iapply (wp_load 𝒱₀ (c : Thread nD τ) none Set.univ (m := Memref.whole cc0_stg1_0) (Finset.subset_univ _)) $$ Hb; iintro Hb
  rw [read_b]
  icases Ho0 with ⟨%Y, Ho0⟩
  iapply (Hold.wp_load_owns 𝒱₀ (c : Thread nD τ) none (fun _ => rfl)) $$ Ho0; iintro Ho0
  iapply (Hold.wp_store_owns 𝒱₀ (c : Thread nD τ) none (fun _ => rfl)) $$ Ho0; iintro Ho0
  iapply (wp_flush c 0 (X := outV m c 0) rfl rfl rfl) $$ [Ho0 Hz0 Ho0s]
  · isplitl [Ho0]; · iexact Ho0
    isplitl [Hz0]; · iexact Hz0
    iexact Ho0s
  iintro Hd0
  ihave Hgb := (show iprop((((c : Thread nD τ).loc cc0_stg0_0) ↦{fullShare} (gAt m c : Buf (Elt F) ((c : Thread nD τ).loc cc0_stg0_0)))
    ∗ (((c : Thread nD τ).loc cc0_stg1_0) ↦{fullShare} (bAt m c : Buf (Elt F) ((c : Thread nD τ).loc cc0_stg1_0)))) ⊢ iprop((((c : Thread nD τ).loc cc0_stg0_0) ↦{fullShare} (gAt m c : Buf (Elt F) ((c : Thread nD τ).loc cc0_stg0_0)))
    ∗ (((c : Thread nD τ).loc cc0_stg1_0) ↦{fullShare} (bAt m c : Buf (Elt F) ((c : Thread nD τ).loc cc0_stg1_0)))) from Entails.rfl) $$ [Hg Hb]
  · isplitl [Hg]; · iexact Hg
    iexact Hb
  rw [wp_ret]; imodintro
  iapply Hk
  isplitl [Hx0]; · iexact Hx0
  isplitl [Hgb]; · iexact Hgb
  iexact Hd0

/-- The tenth part: the landings of the second block. -/
theorem part10 (v2 : BitVec 32) (Kt : (Σ' (v290 : FVec F S2x1024 .f32), FVec F S2x1024 .f32) → sProp (MT nD τ sig Unit (Elt F) ℕ UU ℕ)) :
    iprop(info m K ∗ owing c [] ∗ landTk c (0, 1) ∗ landTk c (1, 1) ∗ landTk c (2, 1) ∗ lO m c 1 own4)
      ⊢ iprop((iprop(owing c [] ∗ z0 c (recvS (0, 1)) ∗ z0 c (recvS (1, 1)) ∗ z0 c (recvS (2, 1)) ∗ lO m c 1 own4 ∗ rO m c (0, 1) ∗ rO m c (1, 1) ∗ rO m c (2, 1)) -∗ Kt ⟨k0_pay11 (statAt m c 1) (lift3 (statAt m (far c 0) 1)), k0_pay12 (lift3 (statAt m (far c 1) 1))⟩) -∗ wp frame (wpE (defs₀ (F := F)) 𝒱₀ (c : Thread nD τ) none) Set.univ (k0_part10 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 v2) Kt) := by
  rw [k0_part10_eq_skeleton]; unfold k0_part10_skel
  simp only [semSignalWord, semWaitWord, Prog.lift, Prog.bind_op, Prog.bind_ret, Prog.pure_eq_ret, wp_deviceId]
  unfold lO rO z0
  iintro ⟨#HI, HO, HL01, HL11, HL21, Hq41⟩ Hk
  iapply (wp_landed m K c (0, 1) rfl rfl) $$ [HL01 HO]
  · isplitr; · iexact HI
    isplitl [HL01]; · iexact HL01
    iexact HO
  iintro ⟨HO, Hzr01, Hr01⟩
  iapply (wp_landed m K c (1, 1) rfl rfl) $$ [HL11 HO]
  · isplitr; · iexact HI
    isplitl [HL11]; · iexact HL11
    iexact HO
  iintro ⟨HO, Hzr11, Hr11⟩
  iapply (wp_landed m K c (2, 1) rfl rfl) $$ [HL21 HO]
  · isplitr; · iexact HI
    isplitl [HL21]; · iexact HL21
    iexact HO
  iintro ⟨HO, Hzr21, Hr21⟩
  iapply (Hold.wp_load_owns 𝒱₀ (c : Thread nD τ) none (fun _ => rfl)) $$ Hq41; iintro Hq41
  iapply (wp_load_slot c (0, 1)) $$ Hr01; iintro Hr01
  iapply (wp_load_slot c (1, 1)) $$ Hr11; iintro Hr11
  rw [wp_ret]; imodintro
  iapply Hk
  isplitl [HO]; · iexact HO
  isplitl [Hzr01]; · iexact Hzr01
  isplitl [Hzr11]; · iexact Hzr11
  isplitl [Hzr21]; · iexact Hzr21
  isplitl [Hq41]; · iexact Hq41
  isplitl [Hr01]; · iexact Hr01
  isplitl [Hr11]; · iexact Hr11
  iexact Hr21

/-- The eleventh part: the second block is normalised and its copy out starts. -/
theorem part11  (Kt : PUnit → sProp (MT nD τ sig Unit (Elt F) ℕ UU ℕ)) :
    iprop(info m K ∗ rO m c (2, 1) ∗ xO m c 1 ∗ gbO m c ∗ oAny c 1 ∗ zAny c 1 ∗ z0 c (outS 1))
      ⊢ iprop((iprop(rO m c (2, 1) ∗ xO m c 1 ∗ gbO m c ∗ outFl m c 1) -∗ Kt ⟨⟩) -∗ wp frame (wpE (defs₀ (F := F)) 𝒱₀ (c : Thread nD τ) none) Set.univ (k0_part11 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 (k0_pay11 (statAt m c 1) (lift3 (statAt m (far c 0) 1))) (k0_pay12 (lift3 (statAt m (far c 1) 1)))) Kt) := by
  rw [k0_part11_eq_skeleton]; unfold k0_part11_skel
  simp only [semSignalWord, semWaitWord, Prog.lift, Prog.bind_op, Prog.bind_ret, Prog.pure_eq_ret, wp_deviceId]
  unfold xO oAny zAny rO z0 outFl gbO
  iintro ⟨#HI, Hr21, Hx1, Hgb, Ho1, Hz1, Ho1s⟩ Hk
  iapply (wp_load_slot c (2, 1)) $$ Hr21; iintro Hr21
  iapply (Hold.wp_load_owns 𝒱₀ (c : Thread nD τ) none (fun _ => rfl)) $$ Hx1; iintro Hx1
  icases Hgb with ⟨Hg, Hb⟩
  iapply (wp_load 𝒱₀ (c : Thread nD τ) none Set.univ (m := Memref.whole cc0_stg0_0) (Finset.subset_univ _)) $$ Hg; iintro Hg
  rw [read_g]
  iapply (wp_load 𝒱₀ (c : Thread nD τ) none Set.univ (m := Memref.whole cc0_stg1_0) (Finset.subset_univ _)) $$ Hb; iintro Hb
  rw [read_b]
  icases Ho1 with ⟨%Y, Ho1⟩
  iapply (Hold.wp_load_owns 𝒱₀ (c : Thread nD τ) none (fun _ => rfl)) $$ Ho1; iintro Ho1
  iapply (Hold.wp_store_owns 𝒱₀ (c : Thread nD τ) none (fun _ => rfl)) $$ Ho1; iintro Ho1
  iapply (wp_flush c 1 (X := outV m c 1) rfl rfl rfl) $$ [Ho1 Hz1 Ho1s]
  · isplitl [Ho1]; · iexact Ho1
    isplitl [Hz1]; · iexact Hz1
    iexact Ho1s
  iintro Hd1
  ihave Hgb := (show iprop((((c : Thread nD τ).loc cc0_stg0_0) ↦{fullShare} (gAt m c : Buf (Elt F) ((c : Thread nD τ).loc cc0_stg0_0)))
    ∗ (((c : Thread nD τ).loc cc0_stg1_0) ↦{fullShare} (bAt m c : Buf (Elt F) ((c : Thread nD τ).loc cc0_stg1_0)))) ⊢ iprop((((c : Thread nD τ).loc cc0_stg0_0) ↦{fullShare} (gAt m c : Buf (Elt F) ((c : Thread nD τ).loc cc0_stg0_0)))
    ∗ (((c : Thread nD τ).loc cc0_stg1_0) ↦{fullShare} (bAt m c : Buf (Elt F) ((c : Thread nD τ).loc cc0_stg1_0)))) from Entails.rfl) $$ [Hg Hb]
  · isplitl [Hg]; · iexact Hg
    iexact Hb
  rw [wp_ret]; imodintro
  iapply Hk
  isplitl [Hr21]; · iexact Hr21
  isplitl [Hx1]; · iexact Hx1
  isplitl [Hgb]; · iexact Hgb
  iexact Hd1

/-- The twelfth part: the sends of the first block have ended. -/
theorem part12  (Kt : PUnit → sProp (MT nD τ sig Unit (Elt F) ℕ UU ℕ)) :
    iprop(info m K ∗ owing c [] ∗ pendTk c (1, 0) ∗ pendTk c (0, 0) ∗ pendTk c (2, 0))
      ⊢ iprop((iprop(owing c [] ∗ z0 c (sendS (1, 0)) ∗ z0 c (sendS (0, 0)) ∗ z0 c (sendS (2, 0)) ∗ lO m c 0 (shr 1) ∗ lO m c 0 (shr 0) ∗ lO m c 0 (shr 2)) -∗ Kt ⟨⟩) -∗ wp frame (wpE (defs₀ (F := F)) 𝒱₀ (c : Thread nD τ) none) Set.univ (k0_part12 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt) := by
  rw [k0_part12_eq_skeleton]; unfold k0_part12_skel
  simp only [semSignalWord, semWaitWord, Prog.lift, Prog.bind_op, Prog.bind_ret, Prog.pure_eq_ret, wp_deviceId]
  unfold lO z0
  iintro ⟨#HI, HO, Hp10, Hp00, Hp20⟩ Hk
  iapply (wp_sent m K c (1, 0) rfl rfl) $$ [Hp10 HO]
  · isplitr; · iexact HI
    isplitl [Hp10]; · iexact Hp10
    iexact HO
  iintro ⟨HO, Hzs10, Hq10⟩
  iapply (wp_sent m K c (0, 0) rfl rfl) $$ [Hp00 HO]
  · isplitr; · iexact HI
    isplitl [Hp00]; · iexact Hp00
    iexact HO
  iintro ⟨HO, Hzs00, Hq00⟩
  iapply (wp_sent m K c (2, 0) rfl rfl) $$ [Hp20 HO]
  · isplitr; · iexact HI
    isplitl [Hp20]; · iexact Hp20
    iexact HO
  iintro ⟨HO, Hzs20, Hq20⟩
  rw [wp_ret]; imodintro
  iapply Hk
  isplitl [HO]; · iexact HO
  isplitl [Hzs10]; · iexact Hzs10
  isplitl [Hzs00]; · iexact Hzs00
  isplitl [Hzs20]; · iexact Hzs20
  isplitl [Hq10]; · iexact Hq10
  isplitl [Hq00]; · iexact Hq00
  iexact Hq20

end Cert.Norm
-- ==== Proof.Whole.lean ====
/-
  The whole body: its parts one after the other, and the waits at its end.
-/
module

public import proofs.«01_k».proof.Proof.Body

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep bigSepL bigSep_univ_eq_bigSepL bigSep_singleton bigSep_elim)
open scoped Idealize.SL.BI
open Idealize.SL.BI.BIBase Idealize.SL.BI.Laws Idealize.SL.ProofMode Idealize.SL.Sem
open Idealize.ShloMosaic.Rounds
open Transfers (Flight)
open Idealize.ShloMosaic.ValueIdx (ix2)

variable {F : FTy → Type} [FloatOps F]
local notation "𝕄" => MT nD τ sig Unit (Elt F) ℕ UU ℕ

variable (m : (ℓ : Loc nD τ sig) → Buf (Elt F) ℓ)

/-! ## What the body needs and leaves -/

/-- The device's tokens, its places in the agreement and its copies' counters. -/
def ghost (c : Dev nD) : sProp 𝕄 :=
  iprop((dutyTok ER (barCell (far c 0)) 0 0 ∗ dutyTok ER (barCell (far c 1)) 0 1 ∗ dutyTok ER (barCell (far c 2)) 0 2)
    ∗ barTk c
    ∗ (sendTk c (0, 0) ∗ sendTk c (0, 1) ∗ sendTk c (1, 0) ∗ sendTk c (1, 1) ∗ sendTk c (2, 0) ∗ sendTk c (2, 1))
    ∗ (landTk c (0, 0) ∗ landTk c (0, 1) ∗ landTk c (1, 0) ∗ landTk c (1, 1) ∗ landTk c (2, 0) ∗ landTk c (2, 1))
    ∗ (z0 c (inS 0) ∗ z0 c (inS 1) ∗ z0 c (outS 0) ∗ z0 c (outS 1)))

/-- The buffers as the body finds them, in the pieces it works on. -/
def bufs (c : Dev nD) : sProp 𝕄 :=
  iprop((aO m c 0 ∗ aO m c 1) ∗ (zAny c 0 ∗ zAny c 1) ∗ (xAny c 0 ∗ xAny c 1) ∗ (oAny c 0 ∗ oAny c 1) ∗ (lAny c 0 ∗ lAny c 1)
    ∗ (slots c 0 ∗ slots c 1 ∗ slots c 2))

/-- The buffers as the body leaves them. -/
def bufs' (c : Dev nD) : sProp 𝕄 :=
  iprop((aO m c 0 ∗ aO m c 1) ∗ (zO m c 0 ∗ zO m c 1) ∗ (xO m c 0 ∗ xO m c 1) ∗ (oO m c 0 ∗ oO m c 1) ∗ (lO m c 0 fullShare ∗ lO m c 1 fullShare)
    ∗ (rO m c (0, 0) ∗ rO m c (0, 1) ∗ rO m c (1, 0) ∗ rO m c (1, 1) ∗ rO m c (2, 0) ∗ rO m c (2, 1)))

/-- Every counter of the device at zero. -/
def zeros (c : Dev nD) : sProp 𝕄 :=
  iprop(semVal (barCell c) 0
    ∗ (z0 c (inS 0) ∗ z0 c (inS 1) ∗ z0 c (outS 0) ∗ z0 c (outS 1))
    ∗ (z0 c (sendS (0, 0)) ∗ z0 c (sendS (0, 1)) ∗ z0 c (sendS (1, 0)) ∗ z0 c (sendS (1, 1)) ∗ z0 c (sendS (2, 0)) ∗ z0 c (sendS (2, 1)))
    ∗ (z0 c (recvS (0, 0)) ∗ z0 c (recvS (0, 1)) ∗ z0 c (recvS (1, 0)) ∗ z0 c (recvS (1, 1)) ∗ z0 c (recvS (2, 0)) ∗ z0 c (recvS (2, 1))))

/-- The four quarters of a block's statistics make it whole again. -/
theorem rejoin (c : Dev nD) (j : Fin 2) :
    (iprop(owns (c : Thread nD τ) (lM j) (shr 0) (statAt m c j) ∗ owns (c : Thread nD τ) (lM j) (shr 1) (statAt m c j) ∗ owns (c : Thread nD τ) (lM j) (shr 2) (statAt m c j) ∗ owns (c : Thread nD τ) (lM j) own4 (statAt m c j)) : sProp 𝕄) ⊢ owns (c : Thread nD τ) (lM j) fullShare (statAt m c j) := by
  refine Entails.trans ?_ (quarters c j (statAt m c j)).2
  iintro ⟨H0, H1, H2, H3⟩
  isplitl [H0 H1]
  · isplitl [H0]; · iexact H0
    iexact H1
  isplitl [H2]; · iexact H2
  iexact H3

variable (K : Dev nD × CI → ℕ) (c : Dev nD)

/-- The body on device `c`: from its tokens, its pieces of the buffers and the
    staged scale and shift, it makes all its payments and leaves the result. -/
theorem sound_body (Kt : PUnit → sProp (MT nD τ sig Unit (Elt F) ℕ UU ℕ)) :
    iprop(info m K ∗ owing c (dues c) ∗ ghost c ∗ bufs m c ∗ gbO m c)
      ⊢ iprop((iprop(owing c [] ∗ bufs' m c ∗ zeros c ∗ gbO m c) -∗ Kt ⟨⟩) -∗ wp frame (wpE (defs₀ (F := F)) 𝒱₀ (c : Thread nD τ) none) Set.univ (cc0_body (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) Kt) := by
  rw [cc0_body_eq_skeleton]; unfold cc0_body_skel
  rw [wp_bind, k0_part13_eq_skeleton]; unfold k0_part13_skel
  simp only [Prog.lift, Prog.bind_op, Prog.bind_ret, Prog.pure_eq_ret]
  unfold ghost bufs
  iintro ⟨#HI, HO, ⟨⟨Ht0, Ht1, Ht2⟩, HB, ⟨HS00, HS01, HS10, HS11, HS20, HS21⟩, ⟨HL00, HL01, HL10, HL11, HL20, HL21⟩, Hi0, Hi1, Ho0s, Ho1s⟩,
    ⟨⟨Ha0, Ha1⟩, ⟨Hz0, Hz1⟩, ⟨Hx0, Hx1⟩, ⟨Ho0, Ho1⟩, ⟨Hl0, Hl1⟩, Hs0, Hs1, Hs2⟩, Hgb⟩ Hk
  rw [wp_bind]
  iapply (part1 m K c _) $$ [HO Ha0 Ha1 Hx0 Hx1 Hi0 Hi1 Ht0 Hs0]
  · isplitr; · iexact HI
    isplitl [HO]; · iexact HO
    isplitl [Ha0]; · iexact Ha0
    isplitl [Ha1]; · iexact Ha1
    isplitl [Hx0]; · iexact Hx0
    isplitl [Hx1]; · iexact Hx1
    isplitl [Hi0]; · iexact Hi0
    isplitl [Hi1]; · iexact Hi1
    isplitl [Ht0]; · iexact Ht0
    iexact Hs0
  iintro %v2 %v27 %v28 %w ⟨HO, Hc0, Hc1⟩
  try dsimp only
  rw [wp_bind]
  iapply (part2 m K c _ _ _ _ _) $$ [HO Ht1 Hs1 Ht2 Hs2 Hc0]
  · isplitr; · iexact HI
    isplitl [HO]; · iexact HO
    isplitl [Ht1]; · iexact Ht1
    isplitl [Hs1]; · iexact Hs1
    isplitl [Ht2]; · iexact Ht2
    isplitl [Hs2]; · iexact Hs2
    iexact Hc0
  iintro ⟨HO, Hi0, Hx0, Ha0⟩
  try dsimp only
  rw [wp_bind]
  iapply (part3 m K c _ _) $$ [HO Hl0 HB HS10]
  · isplitr; · iexact HI
    isplitl [HO]; · iexact HO
    isplitl [Hl0]; · iexact Hl0
    isplitl [HB]; · iexact HB
    iexact HS10
  iintro %w1 %w2 ⟨HO, Hzb, Hp10, Hq00, Hq20, Hq40, Hf00, Hf20, Hf11, Hf01, Hf21⟩
  try dsimp only
  rw [wp_bind]
  iapply (part4 m K c _ _ _ _) $$ [HO Hq00 Hf00 HS00]
  · isplitr; · iexact HI
    isplitl [HO]; · iexact HO
    isplitl [Hq00]; · iexact Hq00
    isplitl [Hf00]; · iexact Hf00
    iexact HS00
  iintro ⟨HO, Hp00⟩
  try dsimp only
  rw [wp_bind]
  iapply (part5 m K c _ _) $$ [HO Hq20 Hf20 HS20 Hc1 Hl1]
  · isplitr; · iexact HI
    isplitl [HO]; · iexact HO
    isplitl [Hq20]; · iexact Hq20
    isplitl [Hf20]; · iexact Hf20
    isplitl [HS20]; · iexact HS20
    isplitl [Hc1]; · iexact Hc1
    iexact Hl1
  iintro %w3 ⟨HO, Hp20, Hi1, Hx1, Ha1, Hl1⟩
  try dsimp only
  rw [wp_bind]
  iapply (part6 m K c _ _ _) $$ [HO Hl1 Hf11 Hf01 HS11 HS01]
  · isplitr; · iexact HI
    isplitl [HO]; · iexact HO
    isplitl [Hl1]; · iexact Hl1
    isplitl [Hf11]; · iexact Hf11
    isplitl [Hf01]; · iexact Hf01
    isplitl [HS11]; · iexact HS11
    iexact HS01
  iintro %w4 ⟨HO, Hp11, Hp01, Hq21, Hq41⟩
  try dsimp only
  rw [wp_bind]
  iapply (part7 m K c _ _ _) $$ [HO Hq21 Hf21 HS21 HL00]
  · isplitr; · iexact HI
    isplitl [HO]; · iexact HO
    isplitl [Hq21]; · iexact Hq21
    isplitl [Hf21]; · iexact Hf21
    isplitl [HS21]; · iexact HS21
    iexact HL00
  iintro ⟨HO, Hp21, Hzr00, Hr00⟩
  try dsimp only
  rw [wp_bind]
  iapply (part8 m K c _ _) $$ [HO HL10 HL20 Hq40 Hr00]
  · isplitr; · iexact HI
    isplitl [HO]; · iexact HO
    isplitl [HL10]; · iexact HL10
    isplitl [HL20]; · iexact HL20
    isplitl [Hq40]; · iexact Hq40
    iexact Hr00
  iintro ⟨HO, Hzr10, Hzr20, Hq40, Hr00, Hr10, Hr20⟩
  try dsimp only
  rw [wp_bind]
  iapply (part9 m K c _ _) $$ [Hx0 Hgb Ho0 Hz0 Ho0s]
  · isplitr; · iexact HI
    isplitl [Hx0]; · iexact Hx0
    isplitl [Hgb]; · iexact Hgb
    isplitl [Ho0]; · iexact Ho0
    isplitl [Hz0]; · iexact Hz0
    iexact Ho0s
  iintro ⟨Hx0, Hgb, Hd0⟩
  try dsimp only
  rw [wp_bind]
  iapply (part10 m K c _ _) $$ [HO HL01 HL11 HL21 Hq41]
  · isplitr; · iexact HI
    isplitl [HO]; · iexact HO
    isplitl [HL01]; · iexact HL01
    isplitl [HL11]; · iexact HL11
    isplitl [HL21]; · iexact HL21
    iexact Hq41
  iintro ⟨HO, Hzr01, Hzr11, Hzr21, Hq41, Hr01, Hr11, Hr21⟩
  try dsimp only
  rw [wp_bind]
  iapply (part11 m K c _) $$ [Hr21 Hx1 Hgb Ho1 Hz1 Ho1s]
  · isplitr; · iexact HI
    isplitl [Hr21]; · iexact Hr21
    isplitl [Hx1]; · iexact Hx1
    isplitl [Hgb]; · iexact Hgb
    isplitl [Ho1]; · iexact Ho1
    isplitl [Hz1]; · iexact Hz1
    iexact Ho1s
  iintro ⟨Hr21, Hx1, Hgb, Hd1⟩
  try dsimp only
  rw [wp_bind]
  iapply (part12 m K c _) $$ [HO Hp10 Hp00 Hp20]
  · isplitr; · iexact HI
    isplitl [HO]; · iexact HO
    isplitl [Hp10]; · iexact Hp10
    isplitl [Hp00]; · iexact Hp00
    iexact Hp20
  iintro ⟨HO, Hzs10, Hzs00, Hzs20, Hq10, Hq00, Hq20⟩
  try dsimp only
  unfold outFl lO
  iapply (wp_sent m K c (1, 1) rfl rfl) $$ [Hp11 HO]
  · isplitr; · iexact HI
    isplitl [Hp11]; · iexact Hp11
    iexact HO
  iintro ⟨HO, Hzs11, Hq11⟩
  iapply (wp_sent m K c (0, 1) rfl rfl) $$ [Hp01 HO]
  · isplitr; · iexact HI
    isplitl [Hp01]; · iexact Hp01
    iexact HO
  iintro ⟨HO, Hzs01, Hq01⟩
  iapply (wp_sent m K c (2, 1) rfl rfl) $$ [Hp21 HO]
  · isplitr; · iexact HI
    isplitl [Hp21]; · iexact Hp21
    iexact HO
  iintro ⟨HO, Hzs21, Hq21⟩
  iapply (wp_copied m K c (sem := outS 0) (lev_dma _ (by decide)) (l := []) (by simp) (dstw := zM 0) rfl) $$ [Hd0 HO]
  · isplitr; · iexact HI
    isplitl [Hd0]; · iexact Hd0
    iexact HO
  iintro ⟨HO, Hos0, Hz0, Ho0⟩
  rw [wp_ret]; imodintro
  try dsimp only
  iapply (wp_copied m K c (sem := outS 1) (lev_dma _ (by decide)) (l := []) (by simp) (dstw := zM 1) rfl) $$ [Hd1 HO]
  · isplitr; · iexact HI
    isplitl [Hd1]; · iexact Hd1
    iexact HO
  iintro ⟨HO, Hos1, Hz1, Ho1⟩
  ihave Hl0 := (rejoin m c 0) $$ [Hq00 Hq10 Hq20 Hq40]
  · isplitl [Hq00]; · iexact Hq00
    isplitl [Hq10]; · iexact Hq10
    isplitl [Hq20]; · iexact Hq20
    iexact Hq40
  ihave Hl1 := (rejoin m c 1) $$ [Hq01 Hq11 Hq21 Hq41]
  · isplitl [Hq01]; · iexact Hq01
    isplitl [Hq11]; · iexact Hq11
    isplitl [Hq21]; · iexact Hq21
    iexact Hq41
  rw [wp_ret]; imodintro
  iapply Hk
  isplitl [HO]; · iexact HO
  unfold bufs' zeros zO oO z0 lO
  isplitl [Ha0 Ha1 Hz0 Hz1 Hx0 Hx1 Ho0 Ho1 Hl0 Hl1 Hr00 Hr01 Hr10 Hr11 Hr20 Hr21]
  · isplitl [Ha0 Ha1]
    · isplitl [Ha0]; · iexact Ha0
      iexact Ha1
    isplitl [Hz0 Hz1]
    · isplitl [Hz0]; · iexact Hz0
      iexact Hz1
    isplitl [Hx0 Hx1]
    · isplitl [Hx0]; · iexact Hx0
      iexact Hx1
    isplitl [Ho0 Ho1]
    · isplitl [Ho0]; · iexact Ho0
      iexact Ho1
    isplitl [Hl0 Hl1]
    · isplitl [Hl0]; · iexact Hl0
      iexact Hl1
    isplitl [Hr00]; · iexact Hr00
    isplitl [Hr01]; · iexact Hr01
    isplitl [Hr10]; · iexact Hr10
    isplitl [Hr11]; · iexact Hr11
    isplitl [Hr20]; · iexact Hr20
    iexact Hr21
  isplitl [Hzb Hi0 Hi1 Hos0 Hos1 Hzs00 Hzs01 Hzs10 Hzs11 Hzs20 Hzs21 Hzr00 Hzr01 Hzr10 Hzr11 Hzr20 Hzr21]
  · isplitl [Hzb]
    · iexact Hzb
    isplitl [Hi0 Hi1 Hos0 Hos1]
    · isplitl [Hi0]; · iexact Hi0
      isplitl [Hi1]; · iexact Hi1
      isplitl [Hos0]; · iexact Hos0
      iexact Hos1
    isplitl [Hzs00 Hzs01 Hzs10 Hzs11 Hzs20 Hzs21]
    · isplitl [Hzs00]; · iexact Hzs00
      isplitl [Hzs01]; · iexact Hzs01
      isplitl [Hzs10]; · iexact Hzs10
      isplitl [Hzs11]; · iexact Hzs11
      isplitl [Hzs20]; · iexact Hzs20
      iexact Hzs21
    isplitl [Hzr00]; · iexact Hzr00
    isplitl [Hzr01]; · iexact Hzr01
    isplitl [Hzr10]; · iexact Hzr10
    isplitl [Hzr11]; · iexact Hzr11
    isplitl [Hzr20]; · iexact Hzr20
    iexact Hzr21
  iexact Hgb

end Cert.Norm
-- ==== Proof.Deal.lean ====
/-
  What the launch deals out: every exchange semaphore starts its agreement, the
  tokens go to the devices that pay with them, and each device gets the credit
  of what it waits for.
-/
module

public import proofs.«01_k».proof.Proof.Whole

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep bigSepL bigSepL_cons_cons bigSepL_singleton bigSep_univ_eq_bigSepL bigSep_singleton bigSep_elim bigSep_mono bigSep_congr bigSep_map bigSep_univ_prod bigSep_univ_equiv bigSep_univ_sum bigSep_sep' bigSep_fupd bigSep_univ_at bigSep_eq_bigSepL_of_eq)
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-- A family over two kinds of index is its two halves. -/
theorem sum_split {α β : Type} [Fintype α] [Fintype β] (Φ : α ⊕ β → sProp (MT nD τ sig Unit (Elt F) ℕ UU ℕ)) :
    bigSep Finset.univ Φ = iprop((bigSep Finset.univ fun a => Φ (.inl a)) ∗ bigSep Finset.univ fun b => Φ (.inr b)) := bigSep_univ_sum Φ

/-- A family of one member. -/
theorem over1 (Φ : Unit → sProp (MT nD τ sig Unit (Elt F) ℕ UU ℕ)) : bigSep Finset.univ Φ = Φ () :=
  bigSep_univ_eq_bigSepL [()] (by decide) (by decide) Φ
/-- A family of two, one by one. -/
theorem over2 (Φ : Fin 2 → sProp (MT nD τ sig Unit (Elt F) ℕ UU ℕ)) : bigSep Finset.univ Φ = iprop(Φ 0 ∗ Φ 1) :=
  bigSep_univ_eq_bigSepL [0, 1] (by decide) (by decide) Φ
/-- A family of three, one by one. -/
theorem over3 (Φ : Fin 3 → sProp (MT nD τ sig Unit (Elt F) ℕ UU ℕ)) : bigSep Finset.univ Φ = iprop(Φ 0 ∗ Φ 1 ∗ Φ 2) :=
  bigSep_univ_eq_bigSepL [0, 1, 2] (by decide) (by decide) Φ
/-- A family over the transfers, one by one. -/
theorem over6 (Φ : Xf → sProp (MT nD τ sig Unit (Elt F) ℕ UU ℕ)) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-! ## The kernel's own semaphores -/

/-- The copies' semaphores, and the exchange's without the barrier. -/
abbrev OI : Type := (Fin 2 ⊕ Fin 2) ⊕ (Xf ⊕ Xf)
def osem : OI → SemLoc sig
  | .inl (.inl k) => .dma (inS k)
  | .inl (.inr k) => .dma (outS k)
  | .inr (.inl x) => .dma (sendS x)
  | .inr (.inr x) => .dma (recvS x)

/-- The kernel's own semaphores are scoped, all different, and none of the pipeline's. -/
theorem ownSemFacts : Pipeline.OwnSemFacts cfg0.spec osem := by decide

/-- The copies' counters at zero. -/
def copySems (c : Dev nD) : sProp 𝕄 := bigSep Finset.univ fun k : Fin 2 ⊕ Fin 2 => semVal ((c : Thread nD τ), osem (.inl k)) 0

/-- The only semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters the launch hands over: the copies', and one for each exchange semaphore. -/
theorem sems_split (c : Dev nD) :
    (iprop(Pipeline.ownSems0 (Ix := Unit) (Name := ℕ) (U := UU) (Lvl := ℕ) (Val := Elt F) (τ := τ) osem c ∗ unscopedSems0 c) : sProp 𝕄)
      ⊢ iprop(copySems c ∗ bigSep Finset.univ fun k : CI => semVal (kcell (c, k)) 0) := by
  rw [unscopedSems0_eq]
  unfold Pipeline.ownSems0 copySems
  rw [sum_split, sum_split (α := Unit), over1]
  iintro ⟨⟨Hc, Hx⟩, HB⟩
  isplitl [Hc]; · iexact Hc
  isplitl [HB]; · iexact HB
  iexact Hx

/-! ## The tokens -/

/-- A token, named by the device that pays with it: one for each signal, each
    send's own semaphore, and each landing. -/
abbrev TI : Type := Fin 3 ⊕ (Xf ⊕ Xf)
/-- The tokens of a device's own semaphores. -/
def mint (ct : Dev nD × TI) : GSem nD τ sig × ℕ × Fin 3 :=
  match ct.2 with
  | .inl j => (barCell ct.1, 0, j)
  | .inr (.inl x) => (sendCell ct.1 x, 0, 0)
  | .inr (.inr x) => (recvCell ct.1 x, 0, 0)

def mintIx : TI → SemLoc sig × Fin 3
  | .inl j => (.reg barS, j)
  | .inr (.inl x) => (.dma (sendS x), 0)
  | .inr (.inr x) => (.dma (recvS x), 0)
/-- Different tokens of a device belong to different payments. -/
theorem mintIx_inj : Function.Injective mintIx := by decide
/-- A token is named by its device and its payment. -/
theorem mint_eq (ct : Dev nD × TI) : mint ct = (((ct.1 : Thread nD τ), (mintIx ct.2).1), 0, (mintIx ct.2).2) := by
  obtain ⟨c, j | x | x⟩ := ct <;> rfl

/-- Different tokens are different payments over all the devices. -/
theorem mint_inj : Function.Injective mint := by
  rintro ⟨c, t⟩ ⟨c', t'⟩ h
  rw [mint_eq, mint_eq] at h
  have h1 : c = c' := congrArg (fun x : GSem nD τ sig × ℕ × Fin 3 => x.1.1.1) h
  have h2 : mintIx t = mintIx t' := congrArg (fun x : GSem nD τ sig × ℕ × Fin 3 => (x.1.2, x.2.2)) h
  rw [h1, mintIx_inj h2]

def cells : Finset (GSem nD τ sig) := Finset.univ.map ⟨kcell, kcell_inj⟩
def tokens : Finset (GSem nD τ sig × ℕ × Fin 3) := Finset.univ.map ⟨mint, mint_inj⟩

/-- From the payer to the semaphore's owner: the owner of the token that device
    `c` pays its `t`-th payment with. -/
def deal (ct : Dev nD × TI) : Dev nD × TI :=
  match ct.2 with
  | .inl j => (far ct.1 j, .inl j)
  | .inr (.inl x) => ct
  | .inr (.inr x) => (far ct.1 x.1, .inr (.inr (rev x.1, x.2)))
def undeal (ct : Dev nD × TI) : Dev nD × TI :=
  match ct.2 with
  | .inl j => (far ct.1 (rev j), .inl j)
  | .inr (.inl x) => ct
  | .inr (.inr x) => (far ct.1 x.1, .inr (.inr (rev x.1, x.2)))
/-- From payer to owner and back. -/
theorem undeal_deal (ct : Dev nD × TI) : undeal (deal ct) = ct := by
  obtain ⟨c, j | x | x⟩ := ct
  · show (far (far c j) (rev j), _) = _; rw [far_rev]
  · rfl
  · show (far (far c x.1) (rev x.1), Sum.inr (Sum.inr (rev (rev x.1), x.2))) = _; rw [far_rev, rev_rev]
/-- From owner to payer and back. -/
theorem deal_undeal (ct : Dev nD × TI) : deal (undeal ct) = ct := by
  obtain ⟨c, j | x | x⟩ := ct
  · show (far (far c (rev j)) j, _) = _; rw [far_rev']
  · rfl
  · show (far (far c x.1) (rev x.1), Sum.inr (Sum.inr (rev (rev x.1), x.2))) = _; rw [far_rev, rev_rev]
def dealing : Dev nD × TI ≃ Dev nD × TI := ⟨deal, undeal, undeal_deal, deal_undeal⟩

def tok (x : GSem nD τ sig × ℕ × Fin 3) : sProp 𝕄 := dutyTok ER x.1 x.2.1 x.2.2
/-- The tokens of device `c`'s own semaphores. -/
def ownTok (c : Dev nD) : sProp 𝕄 := bigSep Finset.univ fun t : TI => tok (mint (c, t))
/-- The tokens device `c` pays with. -/
def payTok (c : Dev nD) : sProp 𝕄 := bigSep Finset.univ fun t : TI => tok (mint (deal (c, t)))

/-- A device pays with its signal tokens at the barrier of the device it signals. -/
theorem tok_bar (c : Dev nD) (j : Fin 3) : (tok (mint (deal (c, .inl j))) : sProp 𝕄) = dutyTok ER (barCell (far c j)) 0 j := rfl
/-- A device pays its own send semaphores. -/
theorem tok_send (c : Dev nD) (x : Xf) : (tok (mint (deal (c, .inr (.inl x)))) : sProp 𝕄) = dutyTok ER (sendCell c x) 0 0 := rfl
/-- A device pays the landing semaphore of the device it sends to. -/
theorem tok_recv (c : Dev nD) (x : Xf) : (tok (mint (deal (c, .inr (.inr x)))) : sProp 𝕄) = dutyTok ER (recvCell (far c x.1) (rev x.1, x.2)) 0 0 := rfl

/-- The tokens go from the semaphores' owners to the payers. -/
theorem tokens_dealt : (bigSep Finset.univ fun c : Dev nD => (ownTok c : sProp 𝕄)) = bigSep Finset.univ fun c : Dev nD => payTok c := by
  unfold ownTok payTok
  rw [← bigSep_univ_prod (fun ct : Dev nD × TI => (tok (mint ct) : sProp 𝕄)), ← bigSep_univ_prod (fun ct : Dev nD × TI => (tok (mint (deal ct)) : sProp 𝕄)),
    bigSep_univ_equiv dealing (fun ct : Dev nD × TI => (tok (mint ct) : sProp 𝕄))]
  rfl

/-! ## The dealing -/

def places (c : Dev nD) : sProp 𝕄 := bigSep Finset.univ fun k : CI => atPos ER (kcell (c, k)) 0 ∅ 0
def marks (c : Dev nD) : sProp 𝕄 := bigSep Finset.univ fun k : CI => reached ER (kcell (c, k)) 0

/-- The exchange's part of the launch's own resources. -/
def u₀ : UU :=
  (initOf (Pipeline.cells cfgs cellOf_inj) (Pipeline.launchToks cfgs cellOf_inj), (initOf cells tokens, 1))

/-- What each device has before its semaphores are put under the agreement. -/
def G (c : Dev nD) : sProp 𝕄 :=
  iprop((bigSep Finset.univ fun k : CI => roundState ER (Rd m) (kcell (c, k)) 0) ∗ places c ∗ marks c ∗ ownTok c)

/-- The launch's resources give every device its part. -/
theorem fund_all : BI.own (ER (initOf cells tokens)) ⊢ (|==> bigSep Finset.univ (G m) : sProp 𝕄) := by
  have hX (Φ : GSem nD τ sig → sProp (MT nD τ sig Unit (Elt F) ℕ UU ℕ)) : bigSep cells Φ = bigSep Finset.univ fun c : Dev nD => bigSep Finset.univ fun k : CI => Φ (kcell (c, k)) := by
    unfold cells; rw [bigSep_map, bigSep_univ_prod]; rfl
  have hT : bigSep tokens (fun x => (dutyTok ER x.1 x.2.1 x.2.2 : sProp 𝕄)) = bigSep Finset.univ fun c : Dev nD => ownTok c := by
    unfold tokens; rw [bigSep_map, bigSep_univ_prod]; rfl
  iintro HX
  imod (Rounds.fund ER (Rd m) cells tokens) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  unfold places marks
  isplitl [Hst']; · iexact Hst'
  isplitl [Hat']; · iexact Hat'
  isplitl [Hr']; · iexact Hr'
  iexact Htok'

/-- The knowledge that every exchange semaphore keeps the agreement. -/
def records (K : Dev nD × CI → ℕ) : sProp 𝕄 :=
  bigSep Finset.univ fun ck => iprop(cellInv ER (Rd m) (K ck) (kcell ck) ∗ reached ER (kcell ck) 0)
instance records_persistent (K : Dev nD × CI → ℕ) : BI.Persistent (records m K) := by unfold records; infer_instance

/-- What stays with one device: its tokens, its places and its copies' counters. -/
def mine (c : Dev nD) : sProp 𝕄 := iprop(payTok c ∗ places c ∗ copySems c)
/-- What each device has once the agreement is in place. -/
def G' (c : Dev nD) : sProp 𝕄 := iprop(∃ K, records m K ∗ mine c)

/-- One device's semaphores are put under the agreement. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ marks c ∗ ownTok c ∗ places c ∗ copySems c) := by
  unfold G
  iintro ⟨Hos, Hus, Hst, Hat, Hr, Htok⟩
  ihave Hv := (sems_split (F := F) c) $$ [Hos Hus]
  · isplitl [Hos] <;> iassumption
  icases Hv with ⟨Hc, Hv⟩
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat]; · iexact Hat
  iexact Hc

/-- A fact that may be used again and again goes to every member. -/
theorem give_all {I : Type} [DecidableEq I] (S : Finset I) (R : sProp (MT nD τ sig Unit (Elt F) ℕ UU ℕ)) [BI.Persistent R]
    (Φ Ψ : I → sProp (MT nD τ sig Unit (Elt F) ℕ UU ℕ))
    (h : ∀ i ∈ S, iprop(R ∗ Φ i) ⊢ Ψ i) : iprop(R ∗ bigSep S Φ) ⊢ bigSep S Ψ :=
  (sep_mono_left (BI.bigSep_of_persistent S R)).trans (Entails.trans (Entails.of_eq (bigSep_sep' S (fun _ => R) Φ).symm) (bigSep_mono h))

/-- What all devices know is gathered and handed to each, and the tokens are dealt. -/
theorem regroup :
    (bigSep Finset.univ fun c : Dev nD => iprop((bigSep Finset.univ fun k : CI => iprop(∃ κ : ℕ, cellInv ER (Rd m) κ (kcell (c, k))))
          ∗ marks c ∗ ownTok c ∗ places c ∗ copySems c) : sProp 𝕄)
      ⊢ bigSep Finset.univ (G' m) := by
  rw [bigSep_sep', bigSep_sep', bigSep_sep', bigSep_sep', tokens_dealt, ← bigSep_univ_prod (fun ck : Dev nD × CI => iprop(∃ κ : ℕ, cellInv ER (Rd m) κ (kcell ck)))]
  unfold marks
  rw [← bigSep_univ_prod (fun ck : Dev nD × CI => (reached ER (kcell ck) 0 : sProp 𝕄))]
  iintro ⟨HI, HR, Htok, Hat, Hc⟩
  ihave HK := (BI.bigSep_exists_pi Finset.univ (fun (ck : Dev nD × CI) (κ : ℕ) => (cellInv ER (Rd m) κ (kcell ck) : sProp 𝕄))) $$ HI
  icases HK with ⟨%K, HI⟩
  iapply (give_all Finset.univ (records m K) mine (G' m) fun c _ => by
    unfold G'
    iintro ⟨HR, HM⟩
    iexists K
    isplitl [HR]; · iexact HR
    iexact HM)
  isplitl [HI HR]
  · unfold records; rw [bigSep_sep']
    isplitl [HI]; · iexact HI
    iexact HR
  · unfold mine; rw [bigSep_sep', bigSep_sep']
    isplitl [Htok]; · iexact Htok
    isplitl [Hat]; · iexact Hat
    iexact Hc

/-- All devices' semaphores are put under the agreement together, and the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- What the devices owe a semaphore that each device's `f` leads to, one device gets back as credit. -/
theorem cred_in (sm : SemLoc sig) (a : Fin 3) (n : ℕ) (c : Dev nD) :
    (Pipeline.launchCred (fun d => tallyAt ((far d a : Thread nD τ), sm) () n) c : sProp 𝕄) ⊢ cred (tallyAt ((c : Thread nD τ), sm) () n) :=
  Pipeline.launchCred_tallyAt sm (fun d => far d a) (fun d => far d (rev a)) (fun c => far_rev' c a) (fun d => far_rev d a) () n c

/-- Each device's credit at launch: three signals and six landings. -/
theorem creds (c : Dev nD) :
    (Pipeline.launchCred O₀ c : sProp 𝕄) ⊢ iprop(cred (tallyAt (barCell c) () 3)
      ∗ cred (tallyAt (recvCell c (0, 0)) () N) ∗ cred (tallyAt (recvCell c (0, 1)) () N) ∗ cred (tallyAt (recvCell c (1, 0)) () N)
      ∗ cred (tallyAt (recvCell c (1, 1)) () N) ∗ cred (tallyAt (recvCell c (2, 0)) () N) ∗ cred (tallyAt (recvCell c (2, 1)) () N)) := by
  unfold O₀ dues landings
  simp only [List.map, owedL]
  simp only [Pipeline.launchCred_add]
  iintro ⟨⟨⟨⟨⟨⟨⟨⟨⟨-, H21⟩, H01⟩, H11⟩, H20⟩, H00⟩, H10⟩, B2⟩, B1⟩, B0⟩
  isplitl [B0 B1 B2]
  · ihave B0 := (cred_in (F := F) (.reg barS) 0 1 c) $$ B0
    ihave B1 := (cred_in (F := F) (.reg barS) 1 1 c) $$ B1
    ihave B2 := (cred_in (F := F) (.reg barS) 2 1 c) $$ B2
    rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [B0]; · iexact B0
    iapply (cred_add _ _).2
    isplitl [B1]; · iexact B1
    iexact B2
  isplitl [H20]; · iapply (cred_in (F := F) (.dma (recvS (0, 0))) 2 N c); iexact H20
  isplitl [H21]; · iapply (cred_in (F := F) (.dma (recvS (0, 1))) 2 N c); iexact H21
  isplitl [H10]; · iapply (cred_in (F := F) (.dma (recvS (1, 0))) 1 N c); iexact H10
  isplitl [H11]; · iapply (cred_in (F := F) (.dma (recvS (1, 1))) 1 N c); iexact H11
  isplitl [H00]; · iapply (cred_in (F := F) (.dma (recvS (2, 0))) 0 N c); iexact H00
  iapply (cred_in (F := F) (.dma (recvS (2, 1))) 0 N c); iexact H01

/-- What the body needs of the agreement, from what the launch deals. -/
theorem ghost_of (c : Dev nD) :
    iprop(Pipeline.launchCred O₀ c ∗ mine c) ⊢ (ghost c : sProp 𝕄) := by
  unfold mine payTok places copySems
  rw [sum_split (α := Fin 3), sum_split (α := Unit), sum_split (α := Fin 2)]
  simp only [sum_split (α := Xf), over1, over2, over3, over6, tok_bar, tok_send, tok_recv]
  iintro ⟨Hcr, ⟨⟨T0, T1, T2⟩, ⟨S00, S01, S10, S11, S20, S21⟩, R00, R01, R10, R11, R20, R21⟩,
    ⟨PB, ⟨PS00, PS01, PS10, PS11, PS20, PS21⟩, PR00, PR01, PR10, PR11, PR20, PR21⟩, ⟨⟨I0, I1⟩, O0, O1⟩⟩
  ihave Hc := (creds (F := F) c) $$ Hcr
  icases Hc with ⟨CB, C00, C01, C10, C11, C20, C21⟩
  unfold ghost barTk sendTk landTk z0
  isplitl [T0 T1 T2]
  · isplitl [T0]; · iexact T0
    isplitl [T1]; · iexact T1
    iexact T2
  isplitl [CB PB]
  · isplitl [CB]; · iexact CB
    iexact PB
  isplitl [S00 S01 S10 S11 S20 S21 R00 R01 R10 R11 R20 R21 PS00 PS01 PS10 PS11 PS20 PS21]
  · isplitl [S00 R00 PS00]
    · isplitl [S00]; · iexact S00
      isplitl [R00]; · iexact R00
      iexact PS00
    isplitl [S01 R01 PS01]
    · isplitl [S01]; · iexact S01
      isplitl [R01]; · iexact R01
      iexact PS01
    isplitl [S10 R10 PS10]
    · isplitl [S10]; · iexact S10
      isplitl [R10]; · iexact R10
      iexact PS10
    isplitl [S11 R11 PS11]
    · isplitl [S11]; · iexact S11
      isplitl [R11]; · iexact R11
      iexact PS11
    isplitl [S20 R20 PS20]
    · isplitl [S20]; · iexact S20
      isplitl [R20]; · iexact R20
      iexact PS20
    isplitl [S21]; · iexact S21
    isplitl [R21]; · iexact R21
    iexact PS21
  isplitl [C00 C01 C10 C11 C20 C21 PR00 PR01 PR10 PR11 PR20 PR21]
  · isplitl [C00 PR00]
    · isplitl [C00]; · iexact C00
      iexact PR00
    isplitl [C01 PR01]
    · isplitl [C01]; · iexact C01
      iexact PR01
    isplitl [C10 PR10]
    · isplitl [C10]; · iexact C10
      iexact PR10
    isplitl [C11 PR11]
    · isplitl [C11]; · iexact C11
      iexact PR11
    isplitl [C20 PR20]
    · isplitl [C20]; · iexact C20
      iexact PR20
    isplitl [C21]; · iexact C21
    iexact PR21
  isplitl [I0]; · iexact I0
  isplitl [I1]; · iexact I1
  isplitl [O0]; · iexact O0
  iexact O1

end Cert.Norm
-- ==== Proof.Pieces.lean ====
/-
  Cutting whole buffers into the pieces the kernel works on, and joining the
  pieces again.
-/
module

public import proofs.«01_k».proof.Proof.Deal

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep bigSep_mono)
open scoped Idealize.SL.BI
open Idealize.SL.BI.BIBase Idealize.SL.BI.Laws Idealize.SL.ProofMode Idealize.SL.Sem
open Idealize.ShloMosaic.ValueIdx (ix2)

variable {F : FTy → Type} [FloatOps F]
local notation "𝕄" => MT nD τ sig Unit (Elt F) ℕ UU ℕ

variable (m : (ℓ : Loc nD τ sig) → Buf (Elt F) ℓ) (c : Dev nD)

/-! ## The families of pieces -/

/-- Different row blocks share no element. -/
theorem rows_apart (k k' : Fin 2) (h : k ≠ k') : Disjoint (rowsR k).set (rowsR k').set := by
  refine Rect.unit_disjoint (0 : Fin 2) ?_
  revert k k'; decide
/-- The row blocks cover the array. -/
theorem rows_all : (Finset.univ : Finset (Fin 2)).biUnion (fun k => (rowsR k).set) = Finset.univ := by
  ext i
  simp only [Finset.mem_biUnion, Finset.mem_univ, true_and, iff_true]
  have h0 : (i 0).val < 2048 := (i 0).isLt
  have h1 : (i 1).val < 1024 := (i 1).isLt
  refine ⟨⟨(i 0).val / 1024, by omega⟩, Rect.mem_set_unit.mpr fun a => ?_⟩
  fin_cases a
  · show 1024 * ((i 0).val / 1024) ≤ (i 0).val ∧ (i 0).val < 1024 * ((i 0).val / 1024) + 1024
    omega
  · show 0 ≤ (i 1).val ∧ (i 1).val < 0 + 1024
    omega

/-- Different blocks of the statistics share no element. -/
theorem cols_apart (k k' : Fin 2) (h : k ≠ k') : Disjoint (colsR k).set (colsR k').set := by
  refine Rect.unit_disjoint (1 : Fin 2) ?_
  revert k k'; decide
/-- They cover the statistics' buffer. -/
theorem cols_all : (Finset.univ : Finset (Fin 2)).biUnion (fun k => (colsR k).set) = Finset.univ := by
  ext i
  simp only [Finset.mem_biUnion, Finset.mem_univ, true_and, iff_true]
  have h0 : (i 0).val < 2 := (i 0).isLt
  have h1 : (i 1).val < 2048 := (i 1).isLt
  refine ⟨⟨(i 1).val / 1024, by omega⟩, Rect.mem_set_unit.mpr fun a => ?_⟩
  fin_cases a
  · show 0 ≤ (i 0).val ∧ (i 0).val < 0 + 2
    omega
  · show 1024 * ((i 1).val / 1024) ≤ (i 1).val ∧ (i 1).val < 1024 * ((i 1).val / 1024) + 1024
    omega

/-- Different landing slots share no element. -/
theorem slot_apart (x x' : Xf) (h : x ≠ x') : Disjoint (slotR x).set (slotR x').set := by
  by_cases h1 : x.1 = x'.1
  · have h2 : x.2 ≠ x'.2 := fun e => h (Prod.ext h1 e)
    refine Rect.unit_disjoint (2 : Fin 3) ?_
    obtain ⟨a, k⟩ := x; obtain ⟨a', k'⟩ := x'
    revert a a' k k'; decide
  · refine Rect.unit_disjoint (0 : Fin 3) ?_
    obtain ⟨a, k⟩ := x; obtain ⟨a', k'⟩ := x'
    revert a a' k k'; decide
/-- The slots cover the landing buffer. -/
theorem slot_all : (Finset.univ : Finset Xf).biUnion (fun x => (slotR x).set) = Finset.univ := by
  ext i
  simp only [Finset.mem_biUnion, Finset.mem_univ, true_and, iff_true]
  have h0 : (i 0).val < 3 := (i 0).isLt
  have h1 : (i 1).val < 2 := (i 1).isLt
  have h2 : (i 2).val < 2048 := (i 2).isLt
  refine ⟨(⟨(i 0).val, h0⟩, ⟨(i 2).val / 1024, by omega⟩), Rect.mem_set_unit.mpr fun a => ?_⟩
  fin_cases a
  · show (i 0).val ≤ (i 0).val ∧ (i 0).val < (i 0).val + 1
    omega
  · show 0 ≤ (i 1).val ∧ (i 1).val < 0 + 2
    omega
  · show 1024 * ((i 2).val / 1024) ≤ (i 2).val ∧ (i 2).val < 1024 * ((i 2).val / 1024) + 1024
    omega

/-! ## Joining pieces at unknown contents -/

/-- Pieces that do not overlap and leave nothing out, each held at some contents, make the whole at some contents. -/
theorem join_any {T : Type} [Fintype T] [DecidableEq T] {sp : Space} {sh : Shape} {e : EltTy} (M : Memref sig .tc sp sh e) (q : PosShare TreeShare)
    (r : T → Rect sh) (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ Y, owns (c : Thread nD τ) (M.slice (r t) (hr t)) q Y) : sProp 𝕄) ⊢ iprop(∃ X, owns (c : Thread nD τ) M q X) := by
  iintro H
  ihave H := (BI.bigSep_exists_pi Finset.univ (fun (t : T) (Y : (r t).shape.Idx → Elt F e) => (owns (c : Thread nD τ) (M.slice (r t) (hr t)) q Y : sProp 𝕄))) $$ H
  icases H with ⟨%Y, H⟩
  have key : ∃ X : sh.Idx → Elt F e, ∀ t j, X ((r t).emb j) = Y t j := by
    classical
    refine ⟨fun i => if h : ∃ p : (t : T) × (r t).shape.Idx, (r p.1).emb p.2 = i then Y h.choose.1 h.choose.2 else Classical.arbitrary _, fun t j => ?_⟩
    have h : ∃ p : (t : T) × (r t).shape.Idx, (r p.1).emb p.2 = (r t).emb j := ⟨⟨t, j⟩, rfl⟩
    dsimp only
    rw [dif_pos h]
    have h1 : h.choose.1 = t := by
      by_contra hne
      have hm : (r t).emb j ∈ (r h.choose.1).set := by
        rw [← Rect.map_emb_univ, Finset.mem_map]; exact ⟨h.choose.2, Finset.mem_univ _, h.choose_spec⟩
      have hm' : (r t).emb j ∈ (r t).set := by
        rw [← Rect.map_emb_univ, Finset.mem_map]; exact ⟨j, Finset.mem_univ _, rfl⟩
      exact Finset.disjoint_left.mp (hd _ _ hne) hm hm'
    have h2 : h.choose = ⟨t, j⟩ := by
      have hs := h.choose_spec
      generalize h.choose = p at h1 hs
      obtain ⟨t', j'⟩ := p
      cases h1
      have hj := (r _).emb.injective hs
      exact congrArg (Sigma.mk _) hj
    rw [h2]
  obtain ⟨X, hX⟩ := key
  iexists X
  iapply (owns_of_rects (c : Thread nD τ) M q r hr hd hcov X)
  rw [show (fun t => (owns (c : Thread nD τ) (M.slice (r t) (hr t)) q (fun j => X ((r t).emb j)) : sProp 𝕄)) = fun t => owns (c : Thread nD τ) (M.slice (r t) (hr t)) q (Y t) from
    funext fun t => congrArg _ (funext (hX t))]
  iexact H

/-! ## Row blocks -/

section Rows
variable {sp : Space} (M : Memref sig .tc sp S2048x1024 .f32)

/-- A whole 2048-row array is its two row blocks. -/
theorem rows_cut (X : S2048x1024.Idx → Elt F .f32) :
    (owns (c : Thread nD τ) M fullShare X : sProp 𝕄)
      ⊢ iprop(owns (c : Thread nD τ) (M.slice (rowsR 0) (fun _ => rfl)) fullShare (fun j => X ((rowsR 0).emb j))
        ∗ owns (c : Thread nD τ) (M.slice (rowsR 1) (fun _ => rfl)) fullShare (fun j => X ((rowsR 1).emb j))) :=
  (owns_rects (c : Thread nD τ) M fullShare rowsR (fun _ _ => rfl) rows_apart rows_all X).trans (Entails.of_eq (over2 _))
/-- The two row blocks of an array are the whole array. -/
theorem rows_join (X : S2048x1024.Idx → Elt F .f32) :
    iprop(owns (c : Thread nD τ) (M.slice (rowsR 0) (fun _ => rfl)) fullShare (fun j => X ((rowsR 0).emb j))
        ∗ owns (c : Thread nD τ) (M.slice (rowsR 1) (fun _ => rfl)) fullShare (fun j => X ((rowsR 1).emb j)))
      ⊢ (owns (c : Thread nD τ) M fullShare X : sProp 𝕄) :=
  (Entails.of_eq (over2 (fun k => owns (c : Thread nD τ) (M.slice (rowsR k) (fun _ => rfl)) fullShare (fun j => X ((rowsR k).emb j)))).symm).trans
    (owns_of_rects (c : Thread nD τ) M fullShare rowsR (fun _ _ => rfl) rows_apart rows_all X)
/-- Two row blocks at any contents are the array at some contents. -/
theorem rows_any (X Y : S1024x1024.Idx → Elt F .f32) :
    iprop(owns (c : Thread nD τ) (M.slice (rowsR 0) (fun _ => rfl)) fullShare X ∗ owns (c : Thread nD τ) (M.slice (rowsR 1) (fun _ => rfl)) fullShare Y)
      ⊢ (iprop(∃ X, owns (c : Thread nD τ) M fullShare X) : sProp 𝕄) := by
  refine Entails.trans ?_ (join_any c M fullShare rowsR (fun _ _ => rfl) rows_apart rows_all)
  rw [over2]
  iintro ⟨H0, H1⟩
  isplitl [H0]
  · iexists X; iexact H0
  iexists Y; iexact H1
end Rows

/-! ## The statistics' column blocks -/

section Cols
variable {sp : Space} (M : Memref sig .tc sp S2x2048 .f32)

/-- The statistics' buffer is its two blocks. -/
theorem cols_cut (X : S2x2048.Idx → Elt F .f32) :
    (owns (c : Thread nD τ) M fullShare X : sProp 𝕄)
      ⊢ iprop(owns (c : Thread nD τ) (M.slice (colsR 0) (fun _ => rfl)) fullShare (fun j => X ((colsR 0).emb j))
        ∗ owns (c : Thread nD τ) (M.slice (colsR 1) (fun _ => rfl)) fullShare (fun j => X ((colsR 1).emb j))) :=
  (owns_rects (c : Thread nD τ) M fullShare colsR (fun _ _ => rfl) cols_apart cols_all X).trans (Entails.of_eq (over2 _))
/-- The two blocks at any contents are the buffer at some contents. -/
theorem cols_any (X Y : S2x1024.Idx → Elt F .f32) :
    iprop(owns (c : Thread nD τ) (M.slice (colsR 0) (fun _ => rfl)) fullShare X ∗ owns (c : Thread nD τ) (M.slice (colsR 1) (fun _ => rfl)) fullShare Y)
      ⊢ (iprop(∃ X, owns (c : Thread nD τ) M fullShare X) : sProp 𝕄) := by
  refine Entails.trans ?_ (join_any c M fullShare colsR (fun _ _ => rfl) cols_apart cols_all)
  rw [over2]
  iintro ⟨H0, H1⟩
  isplitl [H0]
  · iexists X; iexact H0
  iexists Y; iexact H1
end Cols

/-! ## The landing slots -/

/-- A memref whose unit axis is dropped is the same piece of the buffer. -/
theorem unsqueeze {sp : Space} {s s' : Shape} {e : EltTy} (M : Memref sig .tc sp s e) (hs : s.Squeezes s') (X : s'.Idx → Elt F e) :
    (owns (c : Thread nD τ) (M.squeeze s' hs) fullShare X : sProp 𝕄) ⊢ iprop(∃ Y, owns (c : Thread nD τ) M fullShare Y) := by
  have hset : (M.squeeze s' hs).view.set = M.view.set := View.set_reshape _ _
  unfold owns
  iintro ⟨%f, -, H⟩
  iexists M.view.read (Elt F) f
  iexists f
  isplitr; · ipureintro; rfl
  rw [← hset]; iexact H
/-- And so is a memref before its unit axis is dropped. -/
theorem squeeze_any {sp : Space} {s s' : Shape} {e : EltTy} (M : Memref sig .tc sp s e) (hs : s.Squeezes s') (Y : s.Idx → Elt F e) :
    (owns (c : Thread nD τ) M fullShare Y : sProp 𝕄) ⊢ iprop(∃ X, owns (c : Thread nD τ) (M.squeeze s' hs) fullShare X) := by
  have hset : (M.squeeze s' hs).view.set = M.view.set := View.set_reshape _ _
  unfold owns
  iintro ⟨%f, -, H⟩
  iexists (M.squeeze s' hs).view.read (Elt F) f
  iexists f
  isplitr; · ipureintro; rfl
  rw [hset]; iexact H

/-- A transfer's place in the landing buffer, at some contents. -/
def rAny (x : Xf) : sProp 𝕄 := iprop(∃ X, owns (c : Thread nD τ) (rM x) fullShare X)

/-- A slot with its unit axis dropped is the slot. -/
theorem slot_unsqueeze (x : Xf) :
    (rAny c x : sProp 𝕄) ⊢ iprop(∃ Y, owns (c : Thread nD τ) ((Memref.whole cc0_scratch3 : Memref sig .tc .vmem S3x2x2048 .f32).slice (slotR x) (fun _ => rfl)) fullShare Y) := by
  unfold rAny
  iintro ⟨%X, H⟩
  iapply (unsqueeze c _ _ X); iexact H

/-- The landing buffer is its six slots. -/
theorem slots_cut (X : S3x2x2048.Idx → Elt F .f32) :
    (owns (c : Thread nD τ) (Memref.whole cc0_scratch3 : Memref sig .tc .vmem S3x2x2048 .f32) fullShare X : sProp 𝕄)
      ⊢ iprop(rAny c (0, 0) ∗ rAny c (0, 1) ∗ rAny c (1, 0) ∗ rAny c (1, 1) ∗ rAny c (2, 0) ∗ rAny c (2, 1)) :=
  ((owns_rects (c : Thread nD τ) _ fullShare slotR (fun _ _ => rfl) slot_apart slot_all X).trans
    (bigSep_mono (Ψ := fun x => rAny c x) fun x _ => squeeze_any c _ _ _)).trans (Entails.of_eq (over6 _))
/-- The six slots are the landing buffer at some contents. -/
theorem slots_any :
    (iprop(rAny c (0, 0) ∗ rAny c (0, 1) ∗ rAny c (1, 0) ∗ rAny c (1, 1) ∗ rAny c (2, 0) ∗ rAny c (2, 1)) : sProp 𝕄)
      ⊢ iprop(∃ X, owns (c : Thread nD τ) (Memref.whole cc0_scratch3 : Memref sig .tc .vmem S3x2x2048 .f32) fullShare X) :=
  ((Entails.of_eq (over6 (fun x => rAny c x)).symm).trans (bigSep_mono fun x _ => slot_unsqueeze c x)).trans
    (join_any c _ fullShare slotR (fun _ _ => rfl) slot_apart slot_all)

/-! ## The result -/

/-- The result array of device `c`: row `i` is row `i mod 1024` of its block `i / 1024`. -/
def outC : S2048x1024.Idx → Elt F .f32 := fun i =>
  outV m c ⟨(i 0).val / 1024, by have : (i 0).val < 2048 := (i 0).isLt; omega⟩
    (ix2 (⟨(i 0).val % 1024, Nat.mod_lt _ (by decide)⟩ : Fin 1024) (⟨(i 1).val, (i 1).isLt⟩ : Fin 1024))

/-- A row block of the result array is that block's computed values. -/
theorem outC_rows (k : Fin 2) : (fun j => outC m c ((rowsR k).emb j)) = outV m c k := by
  funext j
  have hj : (j 0).val < 1024 := (j 0).isLt
  have e0 : (((rowsR k).emb j) 0).val = 1024 * k.val + 1 * (j 0).val := rfl
  have e1 : (((rowsR k).emb j) 1).val = 0 + 1 * (j 1).val := rfl
  have hk : (⟨(((rowsR k).emb j) 0).val / 1024, by have : (((rowsR k).emb j) 0).val < 2048 := (((rowsR k).emb j) 0).isLt; omega⟩ : Fin 2) = k :=
    Fin.ext (by show _ / 1024 = k.val; rw [e0]; omega)
  unfold outC
  rw [hk]
  congr 1
  funext a
  fin_cases a
  · exact Fin.ext (by show (((rowsR k).emb j) 0).val % 1024 = (j 0).val; rw [e0]; omega)
  · exact Fin.ext (by show (((rowsR k).emb j) 1).val = (j 1).val; rw [e1]; omega)

end Cert.Norm
-- ==== Proof.Launch.lean ====
/-
  The launch: from any memory with zero counters the kernel runs on the four
  devices, ends, leaves its arguments as they were, its result at the computed
  contents and every counter at zero.
-/
module

public import proofs.«01_k».proof.Proof.Pieces
public import Idealize.ShloMosaic.Lib.Pipeline.CollectiveSegs
public import Idealize.ShloMosaic.Lib.Pipeline.Quiescent

@[expose] public section
noncomputable section

namespace Cert.Norm

open Cert.KernelIdeal Cert.KernelIdeal.Gen
open Idealize.ShloMosaic
open Idealize.ShloMosaic.TcCoe
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ UU ℕ

variable (m : (ℓ : Loc nD τ sig) → Buf (Elt F) ℓ) (ρ : Dev nD → PrngReg)

/-! ## Whole buffers -/

/-- A whole buffer of device `c` at contents `X`. -/
abbrev has (c : Dev nD) (b : Ref sig .tc) (X : Buf (Elt F) ((c : Thread nD τ).loc b)) : sProp 𝕄 := ((c : Thread nD τ).loc b) ↦{fullShare} X
/-- The four scratch buffers, at some contents. -/
def scratches (c : Dev nD) : sProp 𝕄 :=
  iprop((∃ f, has c cc0_scratch0 f) ∗ (∃ f, has c cc0_scratch1 f) ∗ (∃ f, has c cc0_scratch2 f) ∗ (∃ f, has c cc0_scratch3 f))

abbrev argB (c : Dev nD) : Buf (Elt F) ((c : Thread nD τ).loc main_arg0) := m ((c : Thread nD τ).loc main_arg0)
abbrev resB (c : Dev nD) : Buf (Elt F) ((c : Thread nD τ).loc main_v1) := m ((c : Thread nD τ).loc main_v1)
abbrev outB (c : Dev nD) : Buf (Elt F) ((c : Thread nD τ).loc main_v1) := outC m c

/-- The pieces the body works on, cut out of the whole buffers. -/
theorem bufs_cut (c : Dev nD) :
    iprop(has c main_arg0 (argB m c) ∗ has c main_v1 (resB m c) ∗ scratches c) ⊢ (bufs m c : sProp 𝕄) := by
  unfold scratches has bufs aO zAny xAny oAny lAny slots
  iintro ⟨Ha, Hz, ⟨%f0, H0⟩, ⟨%f1, H1⟩, ⟨%f2, H2⟩, ⟨%f3, H3⟩⟩
  ihave Ha := ((Entails.of_eq (owns_whole (c : Thread nD τ) main_arg0 fullShare (argB m c)).symm).trans (rows_cut c (Memref.whole main_arg0 : Memref sig .tc .hbm S2048x1024 .f32) (argB m c))) $$ Ha
  ihave Hz := ((Entails.of_eq (owns_whole (c : Thread nD τ) main_v1 fullShare (resB m c)).symm).trans (rows_cut c (Memref.whole main_v1 : Memref sig .tc .hbm S2048x1024 .f32) (resB m c))) $$ Hz
  ihave H0 := ((Entails.of_eq (owns_whole (c : Thread nD τ) cc0_scratch0 fullShare f0).symm).trans (rows_cut c (Memref.whole cc0_scratch0) f0)) $$ H0
  ihave H1 := ((Entails.of_eq (owns_whole (c : Thread nD τ) cc0_scratch1 fullShare f1).symm).trans (rows_cut c (Memref.whole cc0_scratch1) f1)) $$ H1
  ihave H2 := ((Entails.of_eq (owns_whole (c : Thread nD τ) cc0_scratch2 fullShare f2).symm).trans (cols_cut c (Memref.whole cc0_scratch2) f2)) $$ H2
  ihave H3 := ((Entails.of_eq (owns_whole (c : Thread nD τ) cc0_scratch3 fullShare f3).symm).trans (slots_cut c f3)) $$ H3
  icases Ha with ⟨Ha0, Ha1⟩
  icases Hz with ⟨Hz0, Hz1⟩
  icases H0 with ⟨H00, H01⟩
  icases H1 with ⟨H10, H11⟩
  icases H2 with ⟨H20, H21⟩
  unfold rAny
  icases H3 with ⟨R00, R01, R10, R11, R20, R21⟩
  isplitl [Ha0 Ha1]
  · isplitl [Ha0]; · iexact Ha0
    iexact Ha1
  isplitl [Hz0 Hz1]
  · isplitl [Hz0]
    · iexists _; iexact Hz0
    iexists _; iexact Hz1
  isplitl [H00 H01]
  · isplitl [H00]
    · iexists _; iexact H00
    iexists _; iexact H01
  isplitl [H10 H11]
  · isplitl [H10]
    · iexists _; iexact H10
    iexists _; iexact H11
  isplitl [H20 H21]
  · isplitl [H20]
    · iexists _; iexact H20
    iexists _; iexact H21
  isplitl [R00 R01]
  · isplitl [R00]; · iexact R00
    iexact R01
  isplitl [R10 R11]
  · isplitl [R10]; · iexact R10
    iexact R11
  isplitl [R20]; · iexact R20
  iexact R21

/-- The result's two row blocks make the result. -/
theorem out_join (c : Dev nD) : iprop(zO m c 0 ∗ zO m c 1) ⊢ (has c main_v1 (outB m c) : sProp 𝕄) := by
  unfold zO
  rw [← outC_rows m c 0, ← outC_rows m c 1]
  exact (rows_join c (Memref.whole main_v1 : Memref sig .tc .hbm S2048x1024 .f32) (outC m c)).trans (Entails.of_eq (owns_whole (c : Thread nD τ) main_v1 fullShare (outB m c)))

/-- A scratch buffer held as a whole memref at some contents. -/
theorem any_whole (c : Dev nD) (b : Ref sig .tc) :
    (iprop(∃ X, owns (c : Thread nD τ) (Memref.whole b) fullShare X) : sProp 𝕄) ⊢ iprop(∃ f, has c b f) := by
  iintro ⟨%X, H⟩
  iexists X
  iapply (Entails.of_eq (owns_whole (c : Thread nD τ) b fullShare X)); iexact H

/-- The whole buffers, joined from the pieces the body leaves. -/
theorem bufs_join (c : Dev nD) :
    (bufs' m c : sProp 𝕄) ⊢ iprop(has c main_arg0 (argB m c) ∗ has c main_v1 (outB m c) ∗ scratches c) := by
  unfold bufs' aO xO oO lO rO scratches
  iintro ⟨Ha, Hz, ⟨H00, H01⟩, ⟨H10, H11⟩, ⟨H20, H21⟩, R00, R01, R10, R11, R20, R21⟩
  isplitl [Ha]
  · iapply ((rows_join c (Memref.whole main_arg0 : Memref sig .tc .hbm S2048x1024 .f32) (argB m c)).trans (Entails.of_eq (owns_whole (c : Thread nD τ) main_arg0 fullShare (argB m c)))); iexact Ha
  isplitl [Hz]
  · iapply (out_join m c); iexact Hz
  isplitl [H00 H01]
  · iapply ((rows_any c (Memref.whole cc0_scratch0) _ _).trans (any_whole c cc0_scratch0))
    isplitl [H00]; · iexact H00
    iexact H01
  isplitl [H10 H11]
  · iapply ((rows_any c (Memref.whole cc0_scratch1) _ _).trans (any_whole c cc0_scratch1))
    isplitl [H10]; · iexact H10
    iexact H11
  isplitl [H20 H21]
  · iapply ((cols_any c (Memref.whole cc0_scratch2) _ _).trans (any_whole c cc0_scratch2))
    isplitl [H20]; · iexact H20
    iexact H21
  iapply ((slots_any c).trans (any_whole c cc0_scratch3))
  unfold rAny
  isplitl [R00]
  · iexists _; iexact R00
  isplitl [R01]
  · iexists _; iexact R01
  isplitl [R10]
  · iexists _; iexact R10
  isplitl [R11]
  · iexists _; iexact R11
  isplitl [R20]
  · iexists _; iexact R20
  iexists _; iexact R21

/-! ## The proof data -/

/-- What a device's body starts from besides its scratch buffers. -/
def start (c : Dev nD) : sProp 𝕄 :=
  iprop((∃ K, info m K ∗ ghost c) ∗ has c main_arg0 (argB m c) ∗ has c main_v1 (resB m c))
def Φ₀ (c : Dev nD) : sProp 𝕄 := iprop(start m c ∗ scratches c)
/-- What it leaves. -/
def Φ₁ (c : Dev nD) : sProp 𝕄 := iprop((has c main_arg0 (argB m c) ∗ has c main_v1 (outB m c) ∗ scratches c) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gAt m c
    | ⟨1, _⟩ => bAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A family over the staged arguments, one by one. -/
theorem over_windows (Φ : Fin cfg0.W → sProp (MT nD τ sig Unit (Elt F) ℕ UU ℕ)) : bigSep Finset.univ Φ = iprop(Φ (0 : Fin 2) ∗ Φ (1 : Fin 2)) := bigSep_W0 Φ

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The first staged row is fetched at the one grid point. -/
theorem fetch_0 (t : Fin cfg0.N) : (cfg0.win (0 : Fin 2)).fetch t = true := by rw [fin_N0 t]; rfl
/-- So is the second. -/
theorem fetch_1 (t : Fin cfg0.N) : (cfg0.win (1 : Fin 2)).fetch t = true := by rw [fin_N0 t]; rfl

/-- The zero offset on two axes. -/
theorem zero_off : (![0, 0] : Fin 2 → Nat) = fun _ => 0 := funext fun a => by fin_cases a <;> rfl

/-- The staged scale is the argument. -/
theorem before_0 (c : Dev nD) (d) : (dats m ρ 0 c).before (0 : Fin 2) t0_0 d = gAt m c := by
  unfold Dat.before; rw [if_pos (fetch_0 t0_0)]
  funext j
  refine congrArg (m ((c : Thread nD τ).loc main_arg1)) (show _ = j from funext fun a => Fin.ext ?_)
  fin_cases a
  · show 0 + 1 * (j (0 : Fin 2)).val = (j (0 : Fin 2)).val; omega
  · show 0 + 1 * (j (1 : Fin 2)).val = (j (1 : Fin 2)).val; omega
/-- The staged shift is the argument. -/
theorem before_1 (c : Dev nD) (d) : (dats m ρ 0 c).before (1 : Fin 2) t0_0 d = bAt m c := by
  unfold Dat.before; rw [if_pos (fetch_1 t0_0)]
  funext j
  refine congrArg (m ((c : Thread nD τ).loc main_arg2)) (show _ = j from funext fun a => Fin.ext ?_)
  fin_cases a
  · show 0 + 1 * (j (0 : Fin 2)).val = (j (0 : Fin 2)).val; omega
  · show 0 + 1 * (j (1 : Fin 2)).val = (j (1 : Fin 2)).val; omega

set_option maxRecDepth 4000 in
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
set_option maxRecDepth 4000 in
def bodyPost (c : Dev nD) : sProp 𝕄 :=
  iprop(Φ₁ m c ∗ (dats m ρ 0 c).owesAt () t0_0.succ ∗ stg c cc0_stg0_0 (gAt m c) ∗ stg c cc0_stg1_0 (bAt m c))

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [over_windows, over_windows]
  simp only [owns_whole_eq]
  show bodyPre m ρ c ⊢ wp frame (wpE defs₀ 𝒱₀ c none) Set.univ
    (cc0_body (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7) (fun _ => bodyPost m ρ c)
  unfold bodyPre Φ₀ start Dat.owesAt Pipeline.owesWithin
  rw [show (dats m ρ 0 c).owed t0_0.castSucc = owedL (dues c) from rfl]
  iintro ⟨⟨⟨⟨%K, #HI, Hg⟩, Ha, Hz⟩, Hs⟩, ⟨%W, -, HO⟩, ⟨%d0, %g0, %hg0, Hx⟩, ⟨%d1, %g1, %hg1, Hy⟩⟩
  have e0 : g0 = gAt m c := hg0.trans (before_0 m ρ c d0)
  have e1 : g1 = bAt m c := hg1.trans (before_1 m ρ c d1)
  subst e0 e1
  iapply (sound_body m K c fun _ => bodyPost m ρ c) $$ [HO Hg Ha Hz Hs Hx Hy]
  · isplitr; · iexact HI
    isplitl [HO]
    · unfold owing; iexists W; iexact HO
    isplitl [Hg]; · iexact Hg
    isplitl [Ha Hz Hs]
    · iapply (bufs_cut m c)
      isplitl [Ha]; · iexact Ha
      isplitl [Hz]; · iexact Hz
      iexact Hs
    unfold gbO
    isplitl [Hx]; · iexact Hx
    iexact Hy
  iintro ⟨HO, Hb, Hz, Hgb⟩
  unfold bodyPost Φ₁ Dat.owesAt Pipeline.owesWithin owing gbO
  rw [show (dats m ρ 0 c).owed t0_0.succ = 0 from rfl]
  icases HO with ⟨%W', HO⟩
  icases Hgb with ⟨Hx, Hy⟩
  isplitl [Hb Hz]
  · isplitl [Hb]; · iapply (bufs_join m c); iexact Hb
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hy

/-! ## The launch theorem's side conditions -/

/-- Each staging buffer is held in full. -/
theorem share_eq (c : Dev nD) (w : Fin cfg0.W) : (dats m ρ 0 c).share w = fullShare := by unfold Dat.share; split <;> rfl

/-- From the launch's resources to what a device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  rw [show (Pipeline.unscopedRest cfg0.spec c (fun b => m ((c : Thread nD τ).loc b)) : sProp 𝕄)
      = iprop(has c main_arg0 (argB m c) ∗ has c main_v1 (resB m c)) from unscopedRest0_eq c _]
  unfold G' start
  iintro ⟨⟨Ha, Hz⟩, Hlev, Hcr, -, ⟨%K, HR, HM⟩⟩
  imodintro
  isplitl
  · isplitl [Hlev Hcr HR HM]
    · iexists K
      isplitl [HR Hlev]
      · unfold info records
        isplitl [HR]; · iexact HR
        iexact Hlev
      iapply (ghost_of c)
      isplitl [Hcr]; · iexact Hcr
      iexact HM
    isplitl [Ha]; · iexact Ha
    iexact Hz
  · iempintro

/-- With its scratch buffers, that is what the body needs. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

/-- What the launch reads at the end: the argument, the result, and the barrier's counter. -/
def left (c : Dev nD) : sProp 𝕄 := iprop(has c main_arg0 (argB m c) ∗ has c main_v1 (outB m c) ∗ unscopedSems0 c)

/-- The sixteen counters at zero are the kernel's own semaphores at zero. -/
theorem ownSems0_of (c : Dev nD) :
    (iprop((z0 c (inS 0) ∗ z0 c (inS 1) ∗ z0 c (outS 0) ∗ z0 c (outS 1))
    ∗ (z0 c (sendS (0, 0)) ∗ z0 c (sendS (0, 1)) ∗ z0 c (sendS (1, 0)) ∗ z0 c (sendS (1, 1)) ∗ z0 c (sendS (2, 0)) ∗ z0 c (sendS (2, 1)))
    ∗ (z0 c (recvS (0, 0)) ∗ z0 c (recvS (0, 1)) ∗ z0 c (recvS (1, 0)) ∗ z0 c (recvS (1, 1)) ∗ z0 c (recvS (2, 0)) ∗ z0 c (recvS (2, 1)))) : sProp 𝕄)
      ⊢ Pipeline.ownSems0 osem c := by
  unfold Pipeline.ownSems0
  rw [sum_split, sum_split (α := Fin 2), sum_split (α := Xf), over2, over2, over6, over6]
  unfold z0
  iintro ⟨⟨I0, I1, O0, O1⟩, HS, HR⟩
  isplitl [I0 I1 O0 O1]
  · isplitl [I0 I1]
    · isplitl [I0]; · iexact I0
      iexact I1
    isplitl [O0]; · iexact O0
    iexact O1
  isplitl [HS]; · iexact HS
  iexact HR

/-- What the body leaves is what the launch asks back. -/
theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, scopedRest0_eq]
  unfold Φ₁ left zeros
  rw [unscopedSems0_eq]
  iintro ⟨⟨Ha, Hz, Hs⟩, HB, Hrest⟩
  isplitl [Ha Hz HB]
  · isplitl [Ha]; · iexact Ha
    isplitl [Hz]; · iexact Hz
    iexact HB
  isplitl [Hrest]
  · iapply (ownSems0_of c); iexact Hrest
  unfold scratches; iexact Hs

/-- The pipeline may wait for its fetches. -/
theorem waits (c : Dev nD) : (levAts L lv : sProp 𝕄) ⊢ Pipeline.cellsWaits cfgs (dats m ρ) () 0 c :=
  Pipeline.cellsWaits_intro cfgs (dats m ρ) () 0 c fun w s t => by
    have h0 : levS (.dma ((cfg0.win w).sem s)) = 0 := by revert w s; decide
    rcases t with ⟨_ | _, ht⟩
    · exact mayWait_owed c _ (dues c) fun x hx => ⟨(dues_high c x hx).1, lt_of_eq_of_lt h0 (dues_high c x hx).2⟩
    · exact mayWait_owed c _ [] fun x hx => absurd hx List.not_mem_nil

/-! ## The run -/

/-- What the final memory holds, on every device. -/
def Ends (r : PUnit × MemSt nD τ sig (Elt F)) : Prop :=
  ∀ c : Dev nD, r.2.mem ((c : Thread nD τ).loc main_arg0) = argB m c
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_v1) = outB m c

/-- A buffer held in full has the contents it is held at. -/
theorem read_one (c : Dev nD) (b : Ref sig .tc) (X : Buf (Elt F) ((c : Thread nD τ).loc b)) (s' : Phys nD τ sig (Elt F)) :
    (iprop(has c b X ∗ SI s') : sProp 𝕄) ⊢ iprop(⌜s'.mem.mem ((c : Thread nD τ).loc b) = X⌝ ∗ SI s') := by
  have h := pointsTo_read_all (Ix := Unit) (Name := ℕ) (U := UU) (Lvl := ℕ) (Finset.univ : Finset Unit) (fun _ => (c : Thread nD τ).loc b) (fun _ => X) s'
  rw [over1] at h
  refine h.trans ?_
  iintro ⟨%h, H⟩
  isplitr; · ipureintro; exact h () (Finset.mem_univ _)
  iexact H

set_option maxRecDepth 8000 in
/-- From any memory with zero counters every fair execution of the program on
    the four devices ends; then each device's arguments are what they were, its
    result array holds `outC`, and every semaphore counter is zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := fun c => (body_obligation m ρ c).loose) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (Entails.of_eq (show (BI.own (embR (initOf cells tokens, 1)) : sProp 𝕄) = BI.own (ER (initOf cells tokens)) from rfl)) $$ HX
      imod (fund_all m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m ρ) (hout := phi1_exit m ρ)
    (QY := fun c s => (s.mem ((c : Thread nD τ).loc main_arg0) = argB m c ∧ s.mem ((c : Thread nD τ).loc main_v1) = outB m c)
      ∧ ∀ sm : SemLoc sig, sm.isScoped .tc = false → s.sem ((c.tc : Thread nD τ), sm) = 0)
    (hY := fun c s' => by
      unfold left
      iintro ⟨⟨Ha, Hz, Hu⟩, -, HSI⟩
      ihave H := (read_one c main_arg0 (argB m c) s') $$ [Ha HSI]
      · isplitl [Ha] <;> iassumption
      icases H with ⟨%h0, HSI⟩
      ihave H := (read_one c main_v1 (outB m c) s') $$ [Hz HSI]
      · isplitl [Hz] <;> iassumption
      icases H with ⟨%h1, HSI⟩
      imod (Pipeline.unscopedSems0_read (X := unscopedSems0 c) (c := c) Idealize.SL.BI.fupd_intro s') $$ [Hu HSI] with H
      · isplitl [Hu] <;> iassumption
      icases H with ⟨%h2, HSI⟩
      imodintro
      isplitr; · ipureintro; exact ⟨⟨h0, h1⟩, h2⟩
      iexact HSI)
    (hQ := fun _ h hs => ⟨fun c => ⟨(h c).2.2.1.1,
        ((h c).1 (0 : Fin 2)).trans ((dats (F := F) m ρ 0 c).arrAt_in (0 : Fin 2) rfl _),
        ((h c).1 (1 : Fin 2)).trans ((dats (F := F) m ρ 0 c).arrAt_in (1 : Fin 2) rfl _),
        (h c).2.2.1.2⟩,
      sem_eq_zero hs fun c => (h c).2.2.2⟩)

end Cert.Norm
-- ==== Proof.KernelValue.lean ====
/-
  What one row block's computation gives, element by element, over the extended
  reals: the statistics are row sums, and the normalised block is read off them.
-/
module

public import proofs.«01_k».proof.Proof.Stats
public import Idealize.ShloMosaic.Lib.Pointwise

@[expose] public section
noncomputable section

namespace Cert.Norm

open Cert.KernelIdeal Cert.KernelIdeal.Gen
open Idealize.ShloMosaic
open Idealize.ShloMosaic.TcCoe

/-- The two literals of the kernel: the row length and the small constant under the root. -/
abbrev lenC : EReal := Ideal.ofBits .f32 0x45800000#32
abbrev epsC : EReal := Ideal.ofBits .f32 0x3727C5AC#32

/-- The first statistic of row `r` is the row's sum. -/
theorem sum_row (x : S1024x1024.Idx → Elt Ideal .f32) (r : Fin 1024) :
    k0_pay4 (k0_pay2 (F := Ideal) x) (ix2 (0 : Fin 1) r) = ∑ k : Fin 1024, x (ix2 r k) := by
  pointwise [k0_pay4, k0_pay2, k0_pay1]

/-- The second is the sum of the row's squares. -/
theorem sum_squares (x : S1024x1024.Idx → Elt Ideal .f32) (r : Fin 1024) :
    k0_pay5 (k0_pay3 (F := Ideal) x) (ix2 (0 : Fin 1) r) = ∑ k : Fin 1024, (x (ix2 r k) * x (ix2 r k) : EReal) := by
  pointwise [k0_pay5, k0_pay3, k0_pay1]

/-- The stored first statistic of a row is its sum. -/
theorem statV_sum (x : S1024x1024.Idx → Elt Ideal .f32) (r : Fin 1024) :
    statV (F := Ideal) x (ix2 (0 : Fin 2) r) = ∑ k : Fin 1024, x (ix2 r k) := sum_row x r
/-- The stored second one is the sum of its squares. -/
theorem statV_squares (x : S1024x1024.Idx → Elt Ideal .f32) (r : Fin 1024) :
    statV (F := Ideal) x (ix2 (1 : Fin 2) r) = ∑ k : Fin 1024, (x (ix2 r k) * x (ix2 r k) : EReal) := sum_squares x r

/-- A landing slot's values under three axes, read under two, are the slot's values. -/
theorem lift3_cast (X : S2x1024.Idx → Elt Ideal .f32) (h : S1x2x1024.ShapeCasts S2x1024) (j : S2x1024.Idx) :
    shapeCast S2x1024 (lift3 (F := Ideal) X) h j = X j :=
  congrArg X (Equiv.symm_apply_apply _ j)

/-- The four devices' statistics added up. -/
def total (s r0 r1 r2 : S2x1024.Idx → Elt Ideal .f32) (a : Fin 2) (r : Fin 1024) : EReal :=
  s (ix2 a r) + r0 (ix2 a r) + r1 (ix2 a r) + r2 (ix2 a r)

/-- The kernel's total is the four statistics added up. -/
theorem pay8_at (s r0 r1 r2 : S2x1024.Idx → Elt Ideal .f32) (a : Fin 2) (r : Fin 1024) :
    k0_pay8 (F := Ideal) s (lift3 r0) (lift3 r1) (lift3 r2) (ix2 a r) = total s r0 r1 r2 a r := by
  show (s (ix2 a r) + shapeCast S2x1024 (lift3 (F := Ideal) r0) shapeCasts_S1x2x1024_S2x1024 (ix2 a r)
    + shapeCast S2x1024 (lift3 (F := Ideal) r1) shapeCasts_S1x2x1024_S2x1024 (ix2 a r)
    + shapeCast S2x1024 (lift3 (F := Ideal) r2) shapeCasts_S1x2x1024_S2x1024 (ix2 a r) : EReal) = _
  rw [lift3_cast, lift3_cast, lift3_cast]
  rfl

/-- The kernel's mean is the total divided by the row length. -/
theorem pay9_at (s r0 r1 r2 : S2x1024.Idx → Elt Ideal .f32) (r : Fin 1024) :
    k0_pay9 (F := Ideal) s (lift3 r0) (lift3 r1) (lift3 r2) (ix2 (0 : Fin 1) r) = Ideal.div (total s r0 r1 r2 0 r) lenC := by
  rw [← pay8_at]
  pointwise [k0_pay9]

/-- The last step, over any statistics `T` and means `M`. -/
theorem pay10_at (T : S2x1024.Idx → Elt Ideal .f32) (M : S1x1024.Idx → Elt Ideal .f32) (x : S1024x1024.Idx → Elt Ideal .f32)
    (g b : S1x1024.Idx → Elt Ideal .f32) (r l : Fin 1024) :
    k0_pay10 (F := Ideal) T M x g b (ix2 r l)
      = ((x (ix2 r l) - M (ix2 (0 : Fin 1) r)) * Ideal.rsqrt (Ideal.div (T (ix2 (1 : Fin 2) r)) lenC - M (ix2 (0 : Fin 1) r) * M (ix2 (0 : Fin 1) r) + epsC) : EReal)
        * g (ix2 (0 : Fin 1) l) + b (ix2 (0 : Fin 1) l) := by
  pointwise [k0_pay10]

/-- Element `(r, l)` of a normalised block. -/
theorem normV_at (s r0 r1 r2 : S2x1024.Idx → Elt Ideal .f32) (x : S1024x1024.Idx → Elt Ideal .f32)
    (g b : S1x1024.Idx → Elt Ideal .f32) (r l : Fin 1024) :
    normV (F := Ideal) s r0 r1 r2 x g b (ix2 r l)
      = ((x (ix2 r l) - Ideal.div (total s r0 r1 r2 0 r) lenC)
          * Ideal.rsqrt (Ideal.div (total s r0 r1 r2 1 r) lenC - Ideal.div (total s r0 r1 r2 0 r) lenC * Ideal.div (total s r0 r1 r2 0 r) lenC + epsC) : EReal)
        * g (ix2 (0 : Fin 1) l) + b (ix2 (0 : Fin 1) l) := by
  unfold normV
  rw [pay10_at, pay9_at, pay8_at]

end Cert.Norm
-- ==== Proof.KernelArray.lean ====
/-
  What a device's result array holds, in terms of the four devices' argument
  arrays: each row is normalised by the sums of that row over all the devices.
-/
module

public import proofs.«01_k».proof.Proof.KernelValue
public import proofs.«01_k».proof.Proof.Pieces

@[expose] public section
noncomputable section

namespace Cert.Norm

open Cert.KernelIdeal Cert.KernelIdeal.Gen
open Idealize.ShloMosaic
open Idealize.ShloMosaic.TcCoe

variable (m : (ℓ : Loc nD τ sig) → Buf (Elt Ideal) ℓ)

/-- Device `d`'s argument array. -/
def xAt (d : Dev nD) : S2048x1024.Idx → EReal := m ((d : Thread nD τ).loc main_arg0)

/-- A device's own term and the three other devices' terms are one term for each device. -/
theorem sum_devices (f : Dev nD → EReal) (c : Dev nD) : f c + f (far c 0) + f (far c 1) + f (far c 2) = ∑ d : Dev nD, f d := by
  rw [show (∑ d : Dev nD, f d) = ∑ d : Fin 4, f d from rfl, Fin.sum_univ_four]
  revert c
  show ∀ c : Fin 4, _
  intro c
  fin_cases c
  · rfl
  · show f 1 + f 2 + f 3 + f 0 = _; ac_rfl
  · show f 2 + f 3 + f 0 + f 1 = _; ac_rfl
  · show f 3 + f 0 + f 1 + f 2 = _; ac_rfl

/-- The row block a row lies in, and its place there. -/
def blkOf (i : Fin 2048) : Fin 2 := ⟨i.val / 1024, by omega⟩
def rowOf (i : Fin 2048) : Fin 1024 := ⟨i.val % 1024, by omega⟩

/-- A row block's element is the array's. -/
theorem xblk_at (d : Dev nD) (i : Fin 2048) (l : Fin 1024) : xblk m d (blkOf i) (ix2 (rowOf i) l) = xAt m d (ix2 i l) := by
  refine congrArg (xAt m d) (funext fun a => Fin.ext ?_)
  revert a
  rw [Fin.forall_fin_two]
  constructor
  · show 1024 * (i.val / 1024) + 1 * (i.val % 1024) = i.val; omega
  · show 0 + 1 * l.val = l.val; omega

/-- The sum of row `i` over all the devices, -/
def rowSum (i : Fin 2048) : EReal := ∑ d : Dev nD, ∑ k : Fin 1024, xAt m d (ix2 i k)
/-- and of its squares. -/
def rowSquares (i : Fin 2048) : EReal := ∑ d : Dev nD, ∑ k : Fin 1024, xAt m d (ix2 i k) * xAt m d (ix2 i k)

/-- A device's first statistic of a row is the sum of its part of the row. -/
theorem statAt_sum (d : Dev nD) (i : Fin 2048) :
    statAt m d (blkOf i) (ix2 (0 : Fin 2) (rowOf i)) = ∑ k : Fin 1024, xAt m d (ix2 i k) := by
  unfold statAt
  rw [statV_sum]
  exact Finset.sum_congr rfl fun k _ => xblk_at m d i k
/-- Its second is the sum of the squares. -/
theorem statAt_squares (d : Dev nD) (i : Fin 2048) :
    statAt m d (blkOf i) (ix2 (1 : Fin 2) (rowOf i)) = ∑ k : Fin 1024, xAt m d (ix2 i k) * xAt m d (ix2 i k) := by
  unfold statAt
  rw [statV_squares]
  exact Finset.sum_congr rfl fun k _ => by rw [xblk_at]

/-- The four first statistics add up to the sum of the whole row. -/
theorem total_sum (c : Dev nD) (i : Fin 2048) :
    total (statAt m c (blkOf i)) (statAt m (far c 0) (blkOf i)) (statAt m (far c 1) (blkOf i)) (statAt m (far c 2) (blkOf i)) 0 (rowOf i)
      = rowSum m i := by
  unfold total
  rw [statAt_sum, statAt_sum, statAt_sum, statAt_sum]
  exact sum_devices (fun d => ∑ k : Fin 1024, xAt m d (ix2 i k)) c
/-- The four second ones add up to the sum of its squares. -/
theorem total_squares (c : Dev nD) (i : Fin 2048) :
    total (statAt m c (blkOf i)) (statAt m (far c 0) (blkOf i)) (statAt m (far c 1) (blkOf i)) (statAt m (far c 2) (blkOf i)) 1 (rowOf i)
      = rowSquares m i := by
  unfold total
  rw [statAt_squares, statAt_squares, statAt_squares, statAt_squares]
  exact sum_devices (fun d => ∑ k : Fin 1024, xAt m d (ix2 i k) * xAt m d (ix2 i k)) c

/-- Element `(i, l)` of device `c`'s result. -/
theorem outC_at (c : Dev nD) (i : Fin 2048) (l : Fin 1024) :
    outC m c (ix2 i l)
      = (xAt m c (ix2 i l) - Ideal.div (rowSum m i) lenC)
          * Ideal.rsqrt (Ideal.div (rowSquares m i) lenC - Ideal.div (rowSum m i) lenC * Ideal.div (rowSum m i) lenC + epsC)
        * gAt m c (ix2 (0 : Fin 1) l) + bAt m c (ix2 (0 : Fin 1) l) := by
  show outV m c (blkOf i) (ValueIdx.ix2 (rowOf i) l) = _
  rw [← ix2_eq_valueIdx]
  unfold outV
  rw [normV_at, total_sum, total_squares, xblk_at]

end Cert.Norm
-- ==== Proof.RefValue.lean ====
/-
  What the reference computes, element by element, over the extended reals.
-/
module

public import proofs.«01_k».proof.Proof.Gen.ReferenceIdeal.Run
public import Idealize.ShloMosaic.Lib.Pointwise

@[expose] public section
noncomputable section

namespace Cert.Norm.Ref

open Cert.ReferenceIdeal Cert.ReferenceIdeal.Gen
open Idealize.ShloMosaic Idealize.SL.Sem
open Idealize.ShloMosaic.TcCoe

/-- The row length and the small constant under the root. -/
abbrev lenR : EReal := Ideal.ofBits .f32 0x45800000#32
abbrev epsR : EReal := Ideal.ofBits .f32 0x3727C5AC#32

/-- The mean of row `i`. -/
def mean (x : S2048x4096.Idx → EReal) (i : Fin 2048) : EReal := Ideal.div (∑ k : Fin 4096, x (ix2 i k)) lenR
/-- The variance of row `i`: the mean of the squared distances from the mean. -/
def var (x : S2048x4096.Idx → EReal) (i : Fin 2048) : EReal :=
  Ideal.div (∑ k : Fin 4096, (x (ix2 i k) - mean x i) * (x (ix2 i k) - mean x i)) lenR
/-- The result array. -/
def out (x : S2048x4096.Idx → EReal) (g b : S1x4096.Idx → EReal) : S2048x4096.Idx → EReal := fun j =>
  Ideal.div (g (ix2 0 (j 1)) * (x j - mean x (j 0))) (Ideal.sqrt (var x (j 0) + epsR)) + b (ix2 0 (j 1))

/-- The reference's row length is 4096. -/
theorem lenR_eq : lenR = ((4096 : ℝ) : EReal) := by
  simp [lenR, Ideal.ofBits, Ideal.ieee, -EReal.coe_mul]; norm_num

/-- The count the variance divides by is the row length, -/
theorem count_eq : (lenR - FloatOps.sitofp (F := Ideal) .f32 (0#32) : EReal) = lenR := by
  show (lenR - (((0#32 : BitVec 32).toInt : ℝ) : EReal) : EReal) = lenR
  rw [show (0#32 : BitVec 32).toInt = 0 from rfl, Int.cast_zero, EReal.coe_zero, sub_zero]
/-- which is positive, so the guarded quotient is the quotient. -/
theorem count_pos : (0 : EReal) < lenR := by
  rw [lenR_eq]; exact_mod_cast (by norm_num : (0 : ℝ) < 4096)

/-- The reference run from any memory ends with the result at `out` of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15)
          = out (m ((c : Thread nD τ).loc main_arg0)) (m ((c : Thread nD τ).loc main_arg1)) (m ((c : Thread nD τ).loc main_arg2))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2) :=
  (θ_run defs _ _).mono (fun _ h c => ⟨(h c).1.trans (funext fun j => by
      pointwise [out, mean, var]
      rw [count_eq, if_pos count_pos]), (h c).2⟩) (Cert.ReferenceIdeal.Value.run m ρ)

end Cert.Norm.Ref
-- ==== Proof.Algebra.lean ====
/-
  The equation between the two ways of normalising a row, over real numbers and
  then over the extended reals.
-/
module

public import Idealize.ShloMosaic.PureOps.Ideal

@[expose] public section
noncomputable section

namespace Cert.Norm.Alg

open Idealize.ShloMosaic

/-- The mean of the squares less the square of the mean is the mean of the
    squared distances from the mean. -/
theorem variance {ι : Type} [Fintype ι] (f : ι → ℝ) (n : ℝ) (hn : (Fintype.card ι : ℝ) = n) (h0 : n ≠ 0) :
    (∑ k, f k * f k) / n - (∑ k, f k) / n * ((∑ k, f k) / n)
      = (∑ k, (f k - (∑ k, f k) / n) * (f k - (∑ k, f k) / n)) / n := by
  generalize hS : ∑ k, f k = S
  have e : ∑ k, (f k - S / n) * (f k - S / n) = (∑ k, f k * f k) - 2 * (S / n) * S + n * (S / n * (S / n)) := by
    have : ∀ k, (f k - S / n) * (f k - S / n) = f k * f k - 2 * (S / n) * f k + S / n * (S / n) := fun k => by ring
    rw [Finset.sum_congr rfl fun k _ => this k, Finset.sum_add_distrib, Finset.sum_sub_distrib, ← Finset.mul_sum, hS,
      Finset.sum_const, Finset.card_univ, nsmul_eq_mul, hn]
  rw [e]
  field_simp
  ring

/-- The variance is not negative. -/
theorem variance_nonneg {ι : Type} [Fintype ι] (f : ι → ℝ) (a n : ℝ) (h0 : 0 < n) :
    0 ≤ (∑ k, (f k - a) * (f k - a)) / n :=
  div_nonneg (Finset.sum_nonneg fun k _ => mul_self_nonneg _) h0.le

/-- A finite sum of reals is the sum of the reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Dividing real numbers by a nonzero one is the same over the extended reals. -/
theorem div_real (x : ℝ) {n : ℝ} (h : n ≠ 0) : Ideal.div (x : EReal) (n : EReal) = ((x / n : ℝ) : EReal) := by
  rw [Ideal.div_coe h, ← EReal.coe_mul, mul_one_div]

/-- Scaling by the reciprocal root and then by `g` is scaling by `g` and dividing by the root. -/
theorem scale (d v e : ℝ) (g b : EReal) (hv : 0 ≤ v) (he : 0 < e) :
    ((d : EReal) * Ideal.rsqrt ((v : EReal) + (e : EReal))) * g + b
      = Ideal.div (g * (d : EReal)) (Ideal.sqrt ((v : EReal) + (e : EReal))) + b := by
  have hp : 0 < v + e := by linarith
  have hs : Real.sqrt (v + e) ≠ 0 := (Real.sqrt_pos.mpr hp).ne'
  rw [← EReal.coe_add, Ideal.rsqrt_coe, Ideal.sqrt_coe, if_neg (not_lt.mpr hp.le), if_neg hp.ne', if_neg (not_lt.mpr hp.le),
    Ideal.div_coe hs, one_div, mul_comm g, mul_assoc, mul_assoc, mul_comm g]

end Cert.Norm.Alg
-- ==== Proof.Equation.lean ====
/-
  The equation: where the devices hold the blocks of finite arrays, each device's
  result is its block of the reference's.
-/
module

public import proofs.«01_k».proof.Proof.KernelArray
public import proofs.«01_k».proof.Proof.RefValue
public import proofs.«01_k».proof.Proof.Algebra
public import Idealize.ShloMosaic.Lib.Layout

@[expose] public section
noncomputable section

namespace Cert.Norm

open Cert.KernelIdeal Cert.KernelIdeal.Gen
open Idealize.ShloMosaic
open Idealize.ShloMosaic.TcCoe

/-- Column `l` of device `d`'s block, as a column of the whole array. -/
def colOf (d : Fin 4) (l : Fin 1024) : Fin 4096 := ⟨d.val * 1024 + l.val, by omega⟩

/-- Every column of the whole array lies in some device's block. -/
theorem exists_colOf (k : Fin 4096) : ∃ d l, colOf d l = k :=
  ⟨⟨k.val / 1024, by omega⟩, ⟨k.val % 1024, by omega⟩, Fin.ext (by show k.val / 1024 * 1024 + k.val % 1024 = k.val; omega)⟩

/-- Summing each device's columns and then over the devices is summing all the columns. -/
theorem sum_cols (f : Fin 4096 → EReal) : ∑ d : Fin 4, ∑ l : Fin 1024, f (colOf d l) = ∑ k : Fin 4096, f k := by
  rw [← Fintype.sum_prod_type' (f := fun (d : Fin 4) (l : Fin 1024) => f (colOf d l))]
  refine Fintype.sum_equiv (finProdFinEquiv (m := 4) (n := 1024)) _ _ fun p => congrArg f (Fin.ext ?_)
  show p.1.val * 1024 + p.2.val = p.2.val + 1024 * p.1.val
  omega

section Block
variable {S T : Shape} {α : Type}

/-- Element `(i, l)` of device `c`'s block. -/
theorem block_at {n : ℕ} (c : Fin 4) (v : (⟨2, ![n, 4096]⟩ : Shape).Idx → α)
    (h : Layout.Tiles ⟨2, ![n, 1024]⟩ ⟨2, ![n, 4096]⟩ 1 4) (i : Fin n) (l : Fin 1024) :
    Layout.block ⟨2, ![n, 1024]⟩ ⟨2, ![n, 4096]⟩ 1 4 c v h (ix2 i l) = v (ix2 i (colOf c l)) := by
  refine congrArg v (funext fun a => Fin.ext ?_)
  revert a
  show ∀ a : Fin 2, _
  rw [Fin.forall_fin_two]
  exact ⟨rfl, rfl⟩

end Block

/-- The kernel's row length is 4096. -/
theorem lenC_eq : lenC = ((4096 : ℝ) : EReal) := Ref.lenR_eq
/-- The kernel's small constant is a positive real. -/
theorem epsC_eq : ∃ e : ℝ, 0 < e ∧ epsC = (e : EReal) := by
  refine ⟨_, ?_, by simp [epsC, Ideal.ofBits, Ideal.ieee, -EReal.coe_mul]; rfl⟩
  positivity

/-- A row of reals normalised from the sums of its entries and their squares is
    the row normalised by its mean and variance. -/
theorem row_eq (w : Fin 4096 → ℝ) (k : Fin 4096) (g b : EReal) :
    ((w k : EReal) - Ideal.div (∑ k, (w k : EReal)) lenC)
        * Ideal.rsqrt (Ideal.div (∑ k, (w k : EReal) * (w k : EReal)) lenC
            - Ideal.div (∑ k, (w k : EReal)) lenC * Ideal.div (∑ k, (w k : EReal)) lenC + epsC) * g + b
      = Ideal.div (g * ((w k : EReal) - Ideal.div (∑ k, (w k : EReal)) lenC))
          (Ideal.sqrt (Ideal.div (∑ k, ((w k : EReal) - Ideal.div (∑ k, (w k : EReal)) lenC)
            * ((w k : EReal) - Ideal.div (∑ k, (w k : EReal)) lenC)) lenC + epsC)) + b := by
  obtain ⟨e, he, hE⟩ := epsC_eq
  have hn : (4096 : ℝ) ≠ 0 := by norm_num
  rw [hE, lenC_eq, Alg.coe_sum, Alg.div_real _ hn]
  simp only [← EReal.coe_mul, ← EReal.coe_sub]
  rw [Alg.coe_sum, Alg.coe_sum, Alg.div_real _ hn, Alg.div_real _ hn, ← EReal.coe_sub,
    Alg.variance w 4096 (by rw [Fintype.card_fin]; norm_num) hn]
  exact Alg.scale _ _ e g b (Alg.variance_nonneg w _ 4096 (by norm_num)) he

variable (m : (ℓ : Loc nD τ sig) → Buf (Elt Ideal) ℓ)
  (W : (⟨2, ![2048, 4096]⟩ : Shape).Idx → EReal) (G B : (⟨2, ![1, 4096]⟩ : Shape).Idx → EReal)

/-- Each device's result is its block of the reference's result. -/
theorem outC_eq
    (hx : ∀ c : Dev nD, xAt m c = Layout.block ⟨2, ![2048, 1024]⟩ ⟨2, ![2048, 4096]⟩ 1 4 c W)
    (hg : ∀ c : Dev nD, gAt m c = Layout.block ⟨2, ![1, 1024]⟩ ⟨2, ![1, 4096]⟩ 1 4 c G)
    (hb : ∀ c : Dev nD, bAt m c = Layout.block ⟨2, ![1, 1024]⟩ ⟨2, ![1, 4096]⟩ 1 4 c B)
    (hf : ∀ (c : Dev nD) (j), ∃ r : ℝ, xAt m c j = (r : EReal)) (c : Dev nD) :
    outC m c = Layout.block ⟨2, ![2048, 1024]⟩ ⟨2, ![2048, 4096]⟩ 1 4 c (Ref.out W G B) := by
  have hxa : ∀ (d : Dev nD) (i : Fin 2048) (l : Fin 1024), xAt m d (ix2 i l) = W (ix2 i (colOf d l)) := fun d i l => by
    rw [hx]; exact block_at d W _ i l
  funext j
  obtain ⟨i, l, rfl⟩ : ∃ (i : Fin 2048) (l : Fin 1024), j = ix2 i l := ⟨j 0, j 1, eq_ix2 j⟩
  have hw : ∀ k : Fin 4096, ∃ r : ℝ, W (ix2 i k) = (r : EReal) := fun k => by
    obtain ⟨d, q, rfl⟩ := exists_colOf k
    obtain ⟨r, hr⟩ := hf d (ix2 i q)
    exact ⟨r, (hxa d i q).symm.trans hr⟩
  choose w hw using hw
  have hs : rowSum m i = ∑ k : Fin 4096, (w k : EReal) := by
    unfold rowSum
    rw [← sum_cols]
    exact Finset.sum_congr rfl fun d _ => Finset.sum_congr rfl fun q _ => by rw [hxa, hw]
  have hq : rowSquares m i = ∑ k : Fin 4096, (w k : EReal) * (w k : EReal) := by
    unfold rowSquares
    rw [← sum_cols]
    exact Finset.sum_congr rfl fun d _ => Finset.sum_congr rfl fun q _ => by rw [hxa, hw]
  rw [block_at, outC_at, hs, hq, hxa, hw, hg, hb, block_at, block_at]
  refine (row_eq w (colOf c l) _ _).trans ?_
  unfold Ref.out Ref.var Ref.mean
  simp only [hw, ix2_0, ix2_1]

end Cert.Norm
-- ==== Proof.Finite.lean ====
/-
  The precondition, read element by element: every entry of every device's first
  argument is a real number.
-/
module

public import proofs.«01_k».proof.Defs
public import proofs.«01_k».proof.Proof.Gen.Pre_finite_KernelIdeal
public import proofs.«01_k».proof.Proof.KernelArray
public import Idealize.ShloMosaic.Lib.ReduceAll
public import Idealize.ShloMosaic.Lib.Pointwise

@[expose] public section
noncomputable section

namespace Cert.Norm

open Cert.KernelIdeal Cert.KernelIdeal.Gen
open Idealize.ShloMosaic
open Idealize.ShloMosaic.TcCoe

/-- The precondition's bound is plus infinity. -/
theorem infC_eq : Ideal.ofBits .f32 0x7F800000#32 = ⊤ := by
  simp [Ideal.ofBits, Ideal.ieee]

/-- An extended real whose absolute value is below infinity is a real. -/
theorem real_of_abs (x : EReal) (h : Ideal.cmp .olt (max x (-x)) (Ideal.ofBits .f32 0x7F800000#32) = 1#1) : ∃ r : ℝ, x = (r : EReal) := by
  rw [infC_eq] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x with
  | bot => exact absurd hlt (by simp)
  | top => exact absurd hlt (by simp)
  | coe r => exact ⟨r, rfl⟩

/-- Where the precondition holds, every entry of every device's first argument is real. -/
theorem real_of_pre (m : (ℓ : Loc nD τ sig) → Buf (Elt Ideal) ℓ)
    (h : Cert.Pre_KernelIdeal_finite_KernelIdeal (hPre_finite_KernelIdeal := Cert.Pre_finite_KernelIdeal.Gen.facts) m)
    (c : Dev nD) (j : S2048x1024.Idx) : ∃ r : ℝ, xAt m c j = (r : EReal) := by
  have e := congrFun (h c) ValueIdx.ix0
  haveI : Subsingleton (Cert.Pre_finite_KernelIdeal.S_).Idx := ⟨fun a b => funext fun i => i.elim0⟩
  exact real_of_abs _ (Host.reduce_andi_all _ _ _ _ _ e j)

end Cert.Norm
-- ==== Proof.lean ====
/-
  The certificate's claims, assembled: the runs of the kernel and of the
  reference, and the equation between what they leave.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Equation
public import proofs.«01_k».proof.Proof.Finite

@[expose] public section

noncomputable section

namespace Cert.Proof

open Idealize.ShloMosaic Idealize.ShloMosaic.TcCoe Idealize.SL.Sem

/-- The idealized kernel runs, keeps its arguments and leaves every counter at zero. -/
theorem frame_ideal : Cert.quiescent_KernelIdeal (hKernelIdeal := Cert.KernelIdeal.Gen.facts) := fun m g _ =>
  (θ_run _ _ _).mono (fun _ h => ⟨fun c => ⟨(h.1 c).1, (h.1 c).2.1, (h.1 c).2.2.1⟩, h.2⟩) (Cert.Norm.run_main (F := Ideal) m g)

/-- The program's text read over machine words runs, keeps its arguments and leaves every counter at zero. -/
theorem words (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run _ _ _).mono (fun _ h => ⟨fun c => ⟨(h.1 c).1, (h.1 c).2.1, (h.1 c).2.2.1⟩, h.2⟩) (Cert.Norm.run_main (F := Bits) m g)

/-- The kernel's one label runs the same body in the two printed programs. -/
theorem bodies_eq : @Cert.Kernel.defs₀ Bits _ Cert.Kernel.Gen.facts = @Cert.KernelIdeal.defs₀ Bits _ Cert.KernelIdeal.Gen.facts := by
  refine congrArg Defs.onTc (funext fun l => funext fun a => ?_)
  match l, a with
  | ⟨0, _⟩, (_, _) => rfl

/-- The two printed programs' tables of bodies, the pipeline's included, are the same. -/
theorem tables_eq : @Cert.Kernel.defs Bits _ Cert.Kernel.Gen.facts = @Cert.KernelIdeal.defs Bits _ Cert.KernelIdeal.Gen.facts :=
  congrArg (Pipeline.defs (@Cert.KernelIdeal.pcfgs Bits _)) bodies_eq

/-- So does the kernel as printed for machine words: its text is the same. -/
theorem frame_words : Cert.quiescent_Kernel (hKernel := Cert.Kernel.Gen.facts) := by
  intro m g _
  rw [tables_eq]
  exact words m g

/-- The reference runs on its one device, keeps its arguments and, naming no semaphore, leaves every counter at zero. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.Norm.Ref.run m g)

/-- The kernel's result is the reference's, block by block. -/
theorem equal : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) :=
  fun m g m' g' hpre hargs =>
    ⟨Cert.Norm.Ref.out (m' ((0 : Dev Cert.ReferenceIdeal.nD).tc.loc Cert.ReferenceIdeal.main_arg0))
        (m' ((0 : Dev Cert.ReferenceIdeal.nD).tc.loc Cert.ReferenceIdeal.main_arg1)) (m' ((0 : Dev Cert.ReferenceIdeal.nD).tc.loc Cert.ReferenceIdeal.main_arg2)),
      (θ_run _ _ _).mono (fun _ h c => ⟨(h.1 c).2.2.2.trans
          (Cert.Norm.outC_eq m _ _ _ (fun d => (hargs d).1) (fun d => (hargs d).2.1) (fun d => (hargs d).2.2) (Cert.Norm.real_of_pre m hpre) c),
        (h.1 c).1, (h.1 c).2.1, (h.1 c).2.2.1⟩) (Cert.Norm.run_main (F := Ideal) m g),
      (θ_run _ _ _).mono (fun _ h => h 0) (Cert.Norm.Ref.run m' g')⟩

/-- Every claim of the certificate. -/
theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_words, frame_ideal, fun m g _ => frame_ideal m g trivial, frame_reference, fun m g _ => frame_reference m g trivial, trivial, equal⟩

end Cert.Proof

end
